-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S1024x256 : Shape := ⟨2, ![1024, 256]⟩
abbrev S3x256x256 : Shape := ⟨3, ![3, 256, 256]⟩
abbrev S4 : Shape := ⟨1, ![4]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x256, .f32⟩
  | .local _ .vmem, ⟨0, _⟩ => ⟨S256x1024, .f32⟩
  | .local _ .vmem, ⟨1, _⟩ => ⟨S1024x1024, .f32⟩
  | .local _ .vmem, ⟨2, _⟩ => ⟨S1024x256, .f32⟩
  | .local _ .vmem, ⟨3, _⟩ => ⟨S3x256x256, .bf16⟩
  | .local _ .vmem, ⟨4, _⟩ => ⟨S3x256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_27 : BitVec 32) : Fin 2 → Nat :=
  let c0_35 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c2_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c256_i32 : BitVec 32 := 256#32
  let v56 : BitVec 32 := Scalar.muli v53 c256_i32
  let v57 : Index := Scalar.indexCast v56
  ![0, v57.toNat]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_40 : BitVec 32 := 2#32
  let v65 : BitVec 32 := Scalar.addi v2 c2_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c1_i32_51 : BitVec 32 := 1#32
  let v76 : BitVec 32 := Scalar.muli v75 c1_i32_51
  let v77 : BitVec 32 := Scalar.addi c0_i32_52 v76
  v77.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_57 : BitVec 32 := 1#32
  let v86 : BitVec 32 := Scalar.addi v2 c1_i32_57
  let c4_i32_58 : BitVec 32 := 4#32
  let c0_i32_59 : BitVec 32 := 0#32
  let v87 : BitVec 1 := Scalar.cmpi .eq c4_i32_58 c0_i32_59
  let c1_i32_60 : BitVec 32 := 1#32
  let v88 : BitVec 32 := Scalar.select v87 c1_i32_60 c4_i32_58
  let v89 : BitVec 32 := Scalar.remsi v86 v88
  let c0_i32_62 : BitVec 32 := 0#32
  let v91 : BitVec 1 := Scalar.cmpi .slt v89 c0_i32_62
  let c0_i32_63 : BitVec 32 := 0#32
  let v92 : BitVec 1 := Scalar.cmpi .slt v88 c0_i32_63
  let v93 : BitVec 1 := Scalar.xori v91 v92
  let c0_i32_61 : BitVec 32 := 0#32
  let v90 : BitVec 1 := Scalar.cmpi .ne v89 c0_i32_61
  let v94 : BitVec 1 := Scalar.andi v93 v90
  let v95 : BitVec 32 := Scalar.addi v89 v88
  let v96 : BitVec 32 := Scalar.select v94 v95 v89
  let c1_i32_75 : BitVec 32 := 1#32
  let v108 : BitVec 32 := Scalar.muli v96 c1_i32_75
  let v109 : BitVec 32 := Scalar.addi c0_i32_76 v108
  v109.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_81 : BitVec 32 := 3#32
  let v118 : BitVec 32 := Scalar.addi v2 c3_i32_81
  let c4_i32_82 : BitVec 32 := 4#32
  let c0_i32_83 : BitVec 32 := 0#32
  let v119 : BitVec 1 := Scalar.cmpi .eq c4_i32_82 c0_i32_83
  let c1_i32_84 : BitVec 32 := 1#32
  let v120 : BitVec 32 := Scalar.select v119 c1_i32_84 c4_i32_82
  let v121 : BitVec 32 := Scalar.remsi v118 v120
  let c0_i32_86 : BitVec 32 := 0#32
  let v123 : BitVec 1 := Scalar.cmpi .slt v121 c0_i32_86
  let c0_i32_87 : BitVec 32 := 0#32
  let v124 : BitVec 1 := Scalar.cmpi .slt v120 c0_i32_87
  let v125 : BitVec 1 := Scalar.xori v123 v124
  let c0_i32_85 : BitVec 32 := 0#32
  let v122 : BitVec 1 := Scalar.cmpi .ne v121 c0_i32_85
  let v126 : BitVec 1 := Scalar.andi v125 v122
  let v127 : BitVec 32 := Scalar.addi v121 v120
  let v128 : BitVec 32 := Scalar.select v126 v127 v121
  let c1_i32_99 : BitVec 32 := 1#32
  let v140 : BitVec 32 := Scalar.muli v128 c1_i32_99
  let v141 : BitVec 32 := Scalar.addi c0_i32_100 v140
  v141.toNat
def k0_off2 (d0 : Dev nD) : Fin 2 → Nat :=
  let c0_108 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_107 : BitVec 32 := 256#32
  let v152 : BitVec 32 := Scalar.muli v2 c256_i32_107
  let v153 : Index := Scalar.indexCast v152
  ![0, v153.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_110 : BitVec 32 := 256#32
  let v157 : BitVec 32 := Scalar.muli v2 c256_i32_110
  let v158 : Index := Scalar.indexCast v157
  let c0_111 : Index := 0#32
  ![v158.toNat, 0]
def k0_off4 (d0 : Dev nD) (c1_i32_139 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v178 : BitVec 32 := Scalar.subi v2 c1_i32_139
  let c4_i32_140 : BitVec 32 := 4#32
  let c0_i32_141 : BitVec 32 := 0#32
  let v179 : BitVec 1 := Scalar.cmpi .eq c4_i32_140 c0_i32_141
  let c1_i32_142 : BitVec 32 := 1#32
  let v180 : BitVec 32 := Scalar.select v179 c1_i32_142 c4_i32_140
  let v181 : BitVec 32 := Scalar.remsi v178 v180
  let c0_i32_144 : BitVec 32 := 0#32
  let v183 : BitVec 1 := Scalar.cmpi .slt v181 c0_i32_144
  let c0_i32_145 : BitVec 32 := 0#32
  let v184 : BitVec 1 := Scalar.cmpi .slt v180 c0_i32_145
  let v185 : BitVec 1 := Scalar.xori v183 v184
  let c0_i32_143 : BitVec 32 := 0#32
  let v182 : BitVec 1 := Scalar.cmpi .ne v181 c0_i32_143
  let v186 : BitVec 1 := Scalar.andi v185 v182
  let v187 : BitVec 32 := Scalar.addi v181 v180
  let v188 : BitVec 32 := Scalar.select v186 v187 v181
  let c256_i32_159 : BitVec 32 := 256#32
  let v200 : BitVec 32 := Scalar.muli v188 c256_i32_159
  let v201 : Index := Scalar.indexCast v200
  let c0_160 : Index := 0#32
  ![v201.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-!
# The mesh, the buffers and the semaphores

Four devices exchange blocks of a matrix product.  Device `c` computes three blocks for the other
three devices and sends each over one of three channels `j = 0, 1, 2`: channel `j` of device `c`
leads to device `sh c j`, `j + 1` places further round.  This module fixes the arithmetic of that
exchange and the names of what it uses: the three slots of the two scratch buffers, the barrier
semaphore, and the send and the receive semaphore of each channel.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- The device channel `k` of `c` leads to. -/
def sh (c : Dev nD) (k : Fin 3) : Dev nD := ⟨(c.val + k.val + 1) % 4, Nat.mod_lt _ (by decide)⟩
set_option backward.proofsInPublic true in
/-- The device whose channel `k` leads to `c`. -/
def back (c : Dev nD) (k : Fin 3) : Dev nD := ⟨(c.val + 3 - k.val) % 4, Nat.mod_lt _ (by decide)⟩

theorem sh_back (c : Dev nD) (k : Fin 3) : sh (back c k) k = c := by revert c k; decide
theorem back_sh (c : Dev nD) (k : Fin 3) : back (sh c k) k = c := by revert c k; decide
/-- The way back over channel `k` is the way out over the opposite channel. -/
theorem back_eq (c : Dev nD) (k : Fin 3) : back c k = sh c k.rev := by revert c k; decide
theorem back_rev (c : Dev nD) (k : Fin 3) : back c k.rev = sh c k := by revert c k; decide
theorem sh_ne (c : Dev nD) (k : Fin 3) : sh c k ≠ c := by revert c k; decide
theorem back_ne (c : Dev nD) (k : Fin 3) : back c k ≠ c := by revert c k; decide
theorem sh_injective (c : Dev nD) : Function.Injective (sh c) := by revert c; decide
theorem back_injective (c : Dev nD) : Function.Injective (back c) := by revert c; decide

/-- Going out over channel `k`, as a permutation of the devices. -/
def turn (k : Fin 3) : Dev nD ≃ Dev nD := ⟨fun c => sh c k, fun c => back c k, fun c => back_sh c k, fun c => sh_back c k⟩

theorem dev1_eq (c : Dev nD) : (⟨k0_dev1 c, k0_dev1_lt c⟩ : Dev nD) = sh c 0 := by revert c; decide +kernel
theorem dev2_eq (c : Dev nD) : (⟨k0_dev2 c, k0_dev2_lt c⟩ : Dev nD) = sh c 1 := by revert c; decide +kernel
theorem dev3_eq (c : Dev nD) : (⟨k0_dev3 c, k0_dev3_lt c⟩ : Dev nD) = sh c 2 := by revert c; decide +kernel
theorem dev4_eq (c : Dev nD) : (⟨k0_dev4 c, k0_dev4_lt c⟩ : Dev nD) = sh c 1 := by revert c; decide +kernel
theorem dev5_eq (c : Dev nD) : (⟨k0_dev5 c, k0_dev5_lt c⟩ : Dev nD) = sh c 0 := by revert c; decide +kernel
theorem dev6_eq (c : Dev nD) : (⟨k0_dev6 c, k0_dev6_lt c⟩ : Dev nD) = sh c 2 := by revert c; decide +kernel

/-! ## The offsets of the accesses -/

theorem off1_0 (c : Dev nD) : k0_off1 c 1#32 = ![0, 256 * (sh c 0).val] := by revert c; decide +kernel
theorem off1_1 (c : Dev nD) : k0_off1 c 2#32 = ![0, 256 * (sh c 1).val] := by revert c; decide +kernel
theorem off1_2 (c : Dev nD) : k0_off1 c 3#32 = ![0, 256 * (sh c 2).val] := by revert c; decide +kernel
theorem off4_0 (c : Dev nD) : k0_off4 c 1#32 = ![256 * (back c 0).val, 0] := by revert c; decide +kernel
theorem off4_1 (c : Dev nD) : k0_off4 c 2#32 = ![256 * (back c 1).val, 0] := by revert c; decide +kernel
theorem off4_2 (c : Dev nD) : k0_off4 c 3#32 = ![256 * (back c 2).val, 0] := by revert c; decide +kernel

theorem inb_cols : ∀ (d : Dev nD) a, (![0, 256 * d.val] : Fin 2 → Nat) a + S1024x256.size a ≤ S1024x1024.size a := by decide
theorem inb_rows : ∀ (d : Dev nD) a, (![256 * d.val, 0] : Fin 2 → Nat) a + S256x256.size a ≤ S1024x256.size a := by decide
theorem inb_slot : ∀ (k : Fin 3) a, (![k.val, 0, 0] : Fin 3 → Nat) a + S1x256x256.size a ≤ S3x256x256.size a := by decide

/-- The columns of the second operand that belong to device `d`. -/
abbrev colsR (d : Dev nD) : Rect S1024x1024 := Rect.unit (s := S1024x1024) ![0, 256 * d.val] S1024x256.size (inb_cols d)
/-- The rows of the result that device `d` contributes. -/
abbrev rowsR (d : Dev nD) : Rect S1024x256 := Rect.unit (s := S1024x256) ![256 * d.val, 0] S256x256.size (inb_rows d)
/-- Slot `k` of a scratch buffer. -/
abbrev slotR (k : Fin 3) : Rect S3x256x256 := Rect.unit (s := S3x256x256) ![k.val, 0, 0] S1x256x256.size (inb_slot k)

/-! ## The buffers -/

abbrev xM : Memref sig .tc .vmem S256x1024 .f32 := Memref.whole cc0_stg0_0
abbrev wM : Memref sig .tc .vmem S1024x1024 .f32 := Memref.whole cc0_stg1_0
abbrev oM : Memref sig .tc .vmem S1024x256 .f32 := Memref.whole cc0_stg2_0
/-- The scratch buffer a device sends from; -/
abbrev yM : Memref sig .tc .vmem S3x256x256 .bf16 := Memref.whole cc0_scratch0
/-- the one it receives into. -/
abbrev rM : Memref sig .tc .vmem S3x256x256 .bf16 := Memref.whole cc0_scratch1

/-- Slot `k` of a scratch buffer, as the kernel loads and stores it; -/
abbrev slotM (M : Memref sig .tc .vmem S3x256x256 .bf16) (k : Fin 3) : Memref sig .tc .vmem S1x256x256 .bf16 :=
  M.slice (slotR k) (fun _ => rfl)
/-- as it transfers it. -/
abbrev slotQ (M : Memref sig .tc .vmem S3x256x256 .bf16) (k : Fin 3) : Memref sig .tc .vmem S256x256 .bf16 :=
  (slotM M k).squeeze S256x256 squeezes_S1x256x256_S256x256

/-- The slot of the sending buffer that channel `j` sends. -/
def src (j : Fin 3) : Fin 3 := ![1, 0, 2] j

/-! ## The semaphores -/

/-- The runtime's barrier semaphore. -/
abbrev barS : Sem sig := (SemArray.scalar (sig.barrier 0 rfl) : Sems sig S_).sem
set_option backward.proofsInPublic true in
/-- Channel `j`'s send semaphore; -/
abbrev sendS (j : Fin 3) : DmaSem sig := (⟨j.val + 4, by have := j.isLt; change j.val + 4 < 11; omega⟩ : Fin 11)
set_option backward.proofsInPublic true in
/-- its receive semaphore. -/
abbrev recvS (j : Fin 3) : DmaSem sig := (⟨j.val + 8, by have := j.isLt; change j.val + 8 < 11; omega⟩ : Fin 11)

theorem send_sem1 : ((cc0_scratch2.slice (Rect.unit (s := S4) ![1] S1.size inb_S4_S1_1)).squeeze S_ squeezes_S1_S_).sem = sendS 0 := by decide
theorem send_sem2 : ((cc0_scratch2.slice (Rect.unit (s := S4) ![2] S1.size inb_S4_S1_2)).squeeze S_ squeezes_S1_S_).sem = sendS 1 := by decide
theorem send_sem3 : ((cc0_scratch2.slice (Rect.unit (s := S4) ![3] S1.size inb_S4_S1_3)).squeeze S_ squeezes_S1_S_).sem = sendS 2 := by decide
theorem recv_sem1 : ((cc0_scratch3.slice (Rect.unit (s := S4) ![1] S1.size inb_S4_S1_1)).squeeze S_ squeezes_S1_S_).sem = recvS 0 := by decide
theorem recv_sem2 : ((cc0_scratch3.slice (Rect.unit (s := S4) ![2] S1.size inb_S4_S1_2)).squeeze S_ squeezes_S1_S_).sem = recvS 1 := by decide
theorem recv_sem3 : ((cc0_scratch3.slice (Rect.unit (s := S4) ![3] S1.size inb_S4_S1_3)).squeeze S_ squeezes_S1_S_).sem = recvS 2 := by decide

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The credit one block's transfer brings a semaphore. -/
abbrev N : ℕ := (slotQ rM 0).view.dmaCredit
theorem N_pos : 0 < N := View.dmaCredit_pos _ (by decide)
theorem credit_r (j : Fin 3) : (slotQ rM j).view.dmaCredit = N := rfl
theorem credit_y (j : Fin 3) : (slotQ yM j).view.dmaCredit = N := rfl

/-- A device's seven cells: the barrier, three send, three receive. -/
abbrev CellIx : Type := Unit ⊕ (Fin 3 ⊕ Fin 3)
abbrev iBar : CellIx := .inl ()
abbrev iSend (j : Fin 3) : CellIx := .inr (.inl j)
abbrev iRecv (j : Fin 3) : CellIx := .inr (.inr j)
abbrev csem : CellIx → SemLoc sig
  | .inl _ => .reg barS
  | .inr (.inl j) => .dma (sendS j)
  | .inr (.inr j) => .dma (recvS j)
abbrev kcell (ci : Dev nD × CellIx) : GSem nD τ sig := ((ci.1 : Thread nD τ), csem ci.2)

theorem csem_injective : Function.Injective csem := by decide
theorem kcell_injective : Function.Injective (kcell : Dev nD × CellIx → GSem nD τ sig) := by
  rintro ⟨c, i⟩ ⟨c', i'⟩ h
  have h1 : c = c' := congrArg (fun g : GSem nD τ sig => g.1.1) h
  subst h1
  exact congrArg (Prod.mk c) (csem_injective (congrArg Prod.snd h))

end Cert.A2A

end
-- ==== Proof.Slots.lean ====
module

public import proofs.«01_k».proof.Proof.Mesh

/-!
# The slots of the scratch buffers

A scratch buffer is its three slots.  Each slot is owned by itself: it goes to another device with
the barrier, comes back from a transfer, and is loaded and stored alone.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's, and the exchange's with three duties a round -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Splitting and joining -/

theorem slots_disjoint (k k' : Fin 3) (h : k ≠ k') : Disjoint (slotR k).set (slotR k').set := by
  rw [Finset.disjoint_left]
  intro i hi hi'
  rw [Rect.mem_set_unit] at hi hi'
  have h1 : k.val ≤ (i 0).val ∧ (i 0).val < k.val + 1 := hi 0
  have h2 : k'.val ≤ (i 0).val ∧ (i 0).val < k'.val + 1 := hi' 0
  exact h (Fin.ext (by omega))

theorem slots_cover : (Finset.univ : Finset (Fin 3)).biUnion (fun k => (slotR k).set) = Finset.univ := by
  refine Finset.eq_univ_of_forall fun i => Finset.mem_biUnion.mpr ⟨i 0, Finset.mem_univ _, ?_⟩
  rw [Rect.mem_set_unit]
  intro a
  have h1 : (i 1).val < 256 := (i 1).isLt
  have h2 : (i 2).val < 256 := (i 2).isLt
  fin_cases a
  · exact ⟨Nat.le_refl _, Nat.lt_succ_self _⟩
  · exact ⟨Nat.zero_le _, by show (i 1).val < 0 + 256; omega⟩
  · exact ⟨Nat.zero_le _, by show (i 2).val < 0 + 256; omega⟩

/-- Slot `k` of `M` on device `c`, holding `v`. -/
abbrev slotAt (c : Dev nD) (M : Memref sig .tc .vmem S3x256x256 .bf16) (k : Fin 3) (v : Vec F S1x256x256 .bf16) : sProp 𝕄 :=
  owns (c : Thread nD τ) (slotM M k) fullShare v

/-- Slot `k` of `M` on device `c`, whatever it holds. -/
abbrev slotAny (c : Dev nD) (M : Memref sig .tc .vmem S3x256x256 .bf16) (k : Fin 3) : sProp 𝕄 :=
  iprop(∃ v : Vec F S1x256x256 .bf16, slotAt c M k v)

omit [FloatOps F] in
/-- A buffer held whole is its three slots held. -/
theorem slots_split (c : Dev nD) (M : Memref sig .tc .vmem S3x256x256 .bf16) (f : Buf (Elt F) (M.view.loc (c : Thread nD τ))) :
    (M.view.loc (c : Thread nD τ) ↦[M.view.set]{fullShare} f : sProp 𝕄) ⊢ bigSep Finset.univ fun k => slotAny c M k := by
  rw [pointsTo_rects (c : Thread nD τ) M fullShare slotR (fun _ _ => rfl) slots_disjoint slots_cover f]
  exact bigSep_mono fun k _ => exists_intro (Φ := fun v => slotAt c M k v) _

/-- The contents of a buffer whose slots hold `v`. -/
def joined (v : Fin 3 → Vec F S1x256x256 .bf16) : S3x256x256.Idx → Elt F .bf16 := fun i =>
  v (i 0) (fun a => match a with
    | ⟨0, _⟩ => (⟨0, Nat.one_pos⟩ : Fin 1)
    | ⟨1, _⟩ => i 1
    | ⟨2, _⟩ => i 2
    | ⟨n + 3, h⟩ => absurd h (Nat.not_lt.2 (Nat.le_add_left _ _)))

omit [FloatOps F] in
theorem joined_emb (v : Fin 3 → Vec F S1x256x256 .bf16) (k : Fin 3) : (fun j => joined v ((slotR k).emb j)) = v k := by
  funext j
  have hj : (j 0).val < 1 := (j 0).isLt
  unfold joined
  have h0 : (slotR k).emb j 0 = k := Fin.ext (by show k.val + 1 * (j 0).val = k.val; omega)
  rw [h0]
  refine congrArg (v k) (funext fun a => ?_)
  fin_cases a
  · exact Fin.ext (by show 0 = (j 0).val; omega)
  · exact Fin.ext (by show 0 + 1 * (j 1).val = (j 1).val; omega)
  · exact Fin.ext (by show 0 + 1 * (j 2).val = (j 2).val; omega)

/-- Three slots held are the buffer held. -/
theorem slots_join (c : Dev nD) (M : Memref sig .tc .vmem S3x256x256 .bf16) :
    (bigSep Finset.univ fun k => slotAny c M k : sProp 𝕄)
      ⊢ iprop(∃ f : Buf (Elt F) (M.view.loc (c : Thread nD τ)), M.view.loc (c : Thread nD τ) ↦[M.view.set]{fullShare} f) := by
  haveI : ∀ e, Nonempty (Elt F e) := fun e => inferInstance
  haveI : ∀ k : Fin 3, Nonempty (Vec F S1x256x256 .bf16) := fun _ => ⟨fun _ => Classical.arbitrary _⟩
  iintro H
  ihave Hv := (BI.bigSep_exists_pi Finset.univ (fun (k : Fin 3) (v : Vec F S1x256x256 .bf16) => slotAt c M k v)) $$ H
  icases Hv with ⟨%v, Hv⟩
  ihave Ho := ((Entails.of_eq (bigSep_congr fun k _ => by rw [joined_emb])).trans
    (owns_of_rects (c : Thread nD τ) M fullShare slotR (fun _ _ => rfl) slots_disjoint slots_cover (joined v))) $$ Hv
  unfold owns
  icases Ho with ⟨%f, -, Hf⟩
  iexists f
  iexact Hf

/-! ## A slot's elements -/

theorem set_slotQ (M : Memref sig .tc .vmem S3x256x256 .bf16) (k : Fin 3) : (slotQ M k).view.set = (slotM M k).view.set :=
  View.set_reshape _ _

omit [FloatOps F] in
/-- What a slot reads as after a transfer into it is what the slot transferred reads as. -/
theorem landed (M M' : Memref sig .tc .vmem S3x256x256 .bf16) (k k' : Fin 3) (fs : M.view.ty.Contents (Elt F)) (fd : M'.view.ty.Contents (Elt F)) :
    (slotM M' k').view.read (Elt F) ((slotQ M' k').view.write (Elt F) fd ((slotQ M k).view.read (Elt F) fs) Finset.univ)
      = (slotM M k).view.read (Elt F) fs := by
  have h := View.read_write_univ (v := (slotQ M' k').view) (Val := Elt F) fd ((slotQ M k).view.read (Elt F) fs)
  funext i
  let e := Shape.reshapeEquiv squeezes_S1x256x256_S256x256.numel_eq
  have hi : (slotM M' k').view.read (Elt F) _ (e (e.symm i)) = (slotM M k).view.read (Elt F) fs (e (e.symm i)) := congrFun h (e.symm i)
  rwa [Equiv.apply_symm_apply] at hi

end Cert.A2A

end
-- ==== Proof.Sched.lean ====
module

public import proofs.«01_k».proof.Proof.Slots

/-!
# The schedule of the exchange

Every semaphore is used for one round.

* A device's **barrier** gets three units, one from each other device.  The unit from the device
  `back c k` brings `c` the slot of that device's receiving buffer that `c` will write.
* Channel `j`'s **send** semaphore gets the block's credit when the block has left; the slot it was
  sent from comes back.
* Channel `j`'s **receive** semaphore gets the block's credit when the block has arrived; it brings
  slot `j` of the receiving buffer, holding what `back c j` computed for `c`.

The module also states what a device owes when it starts, and the order in which it may wait.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s rows of the first operand, as staged; -/
def xstg (c : Dev nD) : (cc0_stg0_0 : Ref sig .tc).ty.Contents (Elt F) :=
  (win0_0.blk (0 : Fin 1)).view.read (Elt F) (m ((c : Thread nD τ).loc main_arg0))
/-- its copy of the second operand, as staged. -/
def wstg (c : Dev nD) : (cc0_stg1_0 : Ref sig .tc).ty.Contents (Elt F) :=
  (win0_1.blk (0 : Fin 1)).view.read (Elt F) (m ((c : Thread nD τ).loc main_arg1))
/-- Device `d`'s columns of a second operand. -/
def cols (w : (cc0_stg1_0 : Ref sig .tc).ty.Contents (Elt F)) (d : Dev nD) : Vec F S1024x256 .f32 :=
  wM.view.readAt (Elt F) (colsR d).toLoadRect w
/-- The block of the product that device `c` computes for device `d` and sends. -/
def sent (c d : Dev nD) : Vec F S1x256x256 .bf16 := k0_pay2 (xstg m c) (cols (wstg m c) d)

/-! ## Payloads -/

/-- What the unit from `back c k` brings `c`. -/
def barPay (c : Dev nD) (k : Fin 3) : sProp 𝕄 := slotAny (back c k) rM k.rev
/-- What channel `j`'s arrival brings `c`. -/
def recvPay (c : Dev nD) (j : Fin 3) : sProp 𝕄 := slotAt c rM j (sent m (back c j) c)
/-- What channel `j`'s departure gives back to `c`. -/
def sendPay (c : Dev nD) (j : Fin 3) : sProp 𝕄 := slotAny c yM (src j)

instance barPay_storable (c : Dev nD) (k : Fin 3) : BI.Storable (upEmb : UEmb _ 𝕄) (barPay (F := F) c k) := by
  unfold barPay; infer_instance
instance recvPay_storable (c : Dev nD) (j : Fin 3) : BI.Storable (upEmb : UEmb _ 𝕄) (recvPay m c j) := by
  unfold recvPay; infer_instance
instance sendPay_storable (c : Dev nD) (j : Fin 3) : BI.Storable (upEmb : UEmb _ 𝕄) (sendPay (F := F) c j) := by
  unfold sendPay; infer_instance

/-- The channel of a send or a receive semaphore. -/
def chan (q : DmaSem sig) : Fin 3 := ⟨(q : Fin 11).val % 4 % 3, Nat.mod_lt _ (by decide)⟩
theorem chan_send (j : Fin 3) : chan (sendS j) = j := by revert j; decide
theorem chan_recv (j : Fin 3) : chan (recvS j) = j := by revert j; decide

/-- A receive semaphore; -/
abbrev IsRecv (q : DmaSem sig) : Prop := 8 ≤ (q : Fin 11).val
/-- a send semaphore. -/
abbrev IsSend (q : DmaSem sig) : Prop := 4 ≤ (q : Fin 11).val ∧ (q : Fin 11).val ≤ 6
theorem isRecv_recv (j : Fin 3) : IsRecv (recvS j) := Nat.le_add_left _ _
theorem not_isRecv_send (j : Fin 3) : ¬ IsRecv (sendS j) := by revert j; decide
theorem isSend_send (j : Fin 3) : IsSend (sendS j) := by revert j; decide

/-- The duties of a semaphore in round 0. -/
def duties0 : SemLoc sig → Finset (Fin 3)
  | .reg _ => Finset.univ
  | .dma q => if IsSend q ∨ IsRecv q then {0} else ∅

/-- What a duty brings. -/
def pay (c : Dev nD) (k : Fin 3) : SemLoc sig → sProp 𝕄
  | .reg _ => barPay c k
  | .dma q => if IsRecv q then recvPay m c (chan q) else sendPay c (chan q)

/-- What a duty pays. -/
def amt : SemLoc sig → ℕ
  | .reg _ => 1
  | .dma _ => N

instance pay_storable (c : Dev nD) (k : Fin 3) (s : SemLoc sig) : BI.Storable (upEmb : UEmb _ 𝕄) (pay m c k s) := by
  cases s
  · show BI.Storable upEmb (barPay c k); infer_instance
  · unfold pay; dsimp only; split <;> infer_instance

/-- The schedule: one round, round 0. -/
def sched : Rounds.Schedule (GSem nD τ sig) (Fin 3) 𝕄 where
  duties g r := if r = 0 ∧ g.1.2 = .tc then duties0 g.2 else ∅
  unitless _ := False
  amount g _ _ := amt g.2
  payload g _ k := pay m g.1.1 k g.2
  amount_pos g _ _ _ := by
    rcases g with ⟨_, s⟩
    cases s
    · exact Nat.one_pos
    · exact N_pos

instance sched_payload_storable (g : GSem nD τ sig) (r : ℕ) (k : Fin 3) :
    BI.Storable (upEmb : UEmb _ 𝕄) ((sched m).payload g r k) := by
  show BI.Storable upEmb (pay m g.1.1 k g.2); infer_instance

section Facts
variable (c : Dev nD) (j k : Fin 3)

theorem duties_round (s : SemLoc sig) : (sched m).duties ((c : Thread nD τ), s) 0 = duties0 s := by
  dsimp only [sched]; exact if_pos ⟨rfl, rfl⟩
theorem duties_bar : (sched m).duties (barCell c) 0 = Finset.univ := duties_round m c _
theorem duties_send : (sched m).duties (sendCell c j) 0 = {0} := by
  rw [duties_round]; dsimp only [duties0]; exact if_pos (Or.inl (isSend_send j))
theorem duties_recv : (sched m).duties (recvCell c j) 0 = {0} := by
  rw [duties_round]; dsimp only [duties0]; exact if_pos (Or.inr (isRecv_recv j))
theorem duties_later (g : GSem nD τ sig) : ∀ r, 1 ≤ r → (sched m).duties g r = ∅ :=
  fun r hr => by dsimp only [sched]; exact if_neg fun h => by have := h.1; omega

theorem payload_bar : (sched m).payload (barCell c) 0 k = barPay c k := rfl
theorem payload_send : (sched m).payload (sendCell c j) 0 k = sendPay c j := by
  dsimp only [sched, pay]; rw [if_neg (not_isRecv_send j), chan_send]
theorem payload_recv : (sched m).payload (recvCell c j) 0 k = recvPay m c j := by
  dsimp only [sched, pay]; rw [if_pos (isRecv_recv j), chan_recv]

theorem expect_bar : (sched m).expect (barCell c) 0 = 3 := by
  unfold Schedule.expect Schedule.amountOf
  rw [duties_bar]; rfl
theorem expect_send : (sched m).expect (sendCell c j) 0 = N := by
  unfold Schedule.expect Schedule.amountOf
  rw [duties_send, Finset.sum_singleton]; rfl
theorem expect_recv : (sched m).expect (recvCell c j) 0 = N := by
  unfold Schedule.expect Schedule.amountOf
  rw [duties_recv, Finset.sum_singleton]; rfl

/-- The barrier's round brings, for each channel, the slot that channel's transfer writes. -/
theorem rest_bar : (bigSep ((sched m).duties (barCell c) 0 \ ∅) fun k => (sched m).payload (barCell c) 0 k)
    = (bigSep Finset.univ fun j => slotAny (sh c j) rM j : sProp 𝕄) := by
  rw [Finset.sdiff_empty, duties_bar, bigSep_univ_equiv Fin.revPerm]
  refine bigSep_congr fun j _ => ?_
  show slotAny (back c j.rev) rM j.rev.rev = slotAny (sh c j) rM j
  rw [back_rev, Fin.rev_rev]
theorem rest_send : (bigSep ((sched m).duties (sendCell c j) 0 \ ∅) fun k => (sched m).payload (sendCell c j) 0 k) = sendPay (F := F) c j := by
  rw [Finset.sdiff_empty, duties_send, bigSep_singleton, payload_send]
theorem rest_recv : (bigSep ((sched m).duties (recvCell c j) 0 \ ∅) fun k => (sched m).payload (recvCell c j) 0 k) = recvPay m c j := by
  rw [Finset.sdiff_empty, duties_recv, bigSep_singleton, payload_recv]

end Facts

/-! ## What a device owes -/

/-- Channel `j`'s block, owed to the device it leads to; -/
abbrev owedX (c : Dev nD) (j : Fin 3) : CellTallies nD τ sig Unit := tallyAt (recvCell (sh c j) j) () N
/-- the unit owed to the barrier of the device channel `k` leads to. -/
abbrev owedB (c : Dev nD) (k : Fin 3) : CellTallies nD τ sig Unit := tallyAt (barCell (sh c k)) () 1

/-- The blocks, in the order they are sent, the first last. -/
def owedXs (c : Dev nD) : CellTallies nD τ sig Unit := 0 + owedX c 2 + owedX c 0 + owedX c 1
/-- All a device owes at the start. -/
def owed₀ (c : Dev nD) : CellTallies nD τ sig Unit := owedXs c + owedB c 2 + owedB c 1 + owedB c 0

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem owedXs_pos {c : Dev nD} {g : GSem nD τ sig} {u : Unit} (h : 0 < owedXs c g u) : ∃ d j, g = recvCell d j := by
  unfold owedXs at h
  simp only [Pi.add_apply, Finsupp.add_apply, Pi.zero_apply, Finsupp.zero_apply, Nat.zero_add, Nat.add_pos_iff_pos_or_pos] at h
  rcases h with (h | h) | h <;> exact ⟨_, _, tally_pos h⟩

theorem owed₀_pos {c : Dev nD} {g : GSem nD τ sig} {u : Unit} (h : 0 < owed₀ c g u) :
    (∃ d j, g = recvCell d j) ∨ ∃ d, g = barCell d := by
  unfold owed₀ at h
  simp only [Pi.add_apply, Finsupp.add_apply, Nat.add_pos_iff_pos_or_pos] at h
  rcases h with ((h | h) | h) | h
  · exact .inl (owedXs_pos h)
  all_goals exact .inr ⟨_, tally_pos h⟩

/-! ## The order of waiting: staging and sends first, then barriers, then arrivals -/

def lvl : SemLoc sig → ℕ
  | .reg _ => 1
  | .dma q => if IsRecv q then 2 else 0

def L (g : GSem nD τ sig) : Finset Unit := if g.1.2 = .tc then {()} else ∅
def lv (g : GSem nD τ sig) (_ : Unit) : ℕ := lvl g.2

theorem L_of_ne (g : GSem nD τ sig) (h : g.1.2 ≠ .tc) : L g = ∅ := if_neg h
theorem L_tc (c : Dev nD) (s : SemLoc sig) : L ((c : Thread nD τ), s) = {()} := if_pos rfl
theorem lvl_recv (j : Fin 3) : lvl (.dma (recvS j)) = 2 := by dsimp only [lvl]; exact if_pos (isRecv_recv j)

/-- A device may wait on a semaphore that is neither a barrier nor a receive, whatever of the exchange it owes. -/
theorem mayWait_low (c : Dev nD) (q : DmaSem sig) (hq : ¬ IsRecv q) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨d, j, rfl⟩ | ⟨d, rfl⟩ <;> exact Finset.mem_singleton_self _)
      (fun p hp => by rw [Finset.mem_singleton.mp hp]; dsimp only [lv, lvl]; rw [if_neg hq])
      (fun g u hg => by
        rcases owed₀_pos hg with ⟨d, j, rfl⟩ | ⟨d, rfl⟩
        · show 0 < lvl (.dma (recvS j)); rw [lvl_recv]; decide
        · exact Nat.one_pos)
  · rw [MayWait_zero]; iintro -; iempintro

/-- At its barrier a device owes only blocks, which arrive after barriers. -/
theorem mayWait_bar (c : Dev nD) : (levAts L lv : sProp 𝕄) ⊢ MayWait (c : Thread nD τ) (.reg barS) () (owedXs c) :=
  MayOwe.of_cut (L := L) (lev := lv) 1 (fun p hp => by rw [Finset.mem_singleton.mp hp, L_tc]; exact Finset.mem_singleton_self _)
    (fun g u hg => by obtain ⟨d, j, rfl⟩ := owedXs_pos hg; exact Finset.mem_singleton_self _)
    (fun p hp => by rw [Finset.mem_singleton.mp hp]; exact Nat.le_refl 1)
    (fun g u hg => by
      obtain ⟨d, j, rfl⟩ := owedXs_pos hg
      show 1 < lvl (.dma (recvS j)); rw [lvl_recv]; decide)

end Cert.A2A

end
-- ==== Proof.Steps.lean ====
module

public import proofs.«01_k».proof.Proof.Sched

/-!
# The exchange's steps

One rule for each kind of step of the exchange: a signal, the wait at the barrier, a transfer, the
wait for its departure, the wait for an arrival.  Each is stated for every device and every channel.
After the wait on a semaphore its round is over and its counter is at zero.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What every device knows: every semaphore of the exchange follows the schedule, and has reached round 0. -/
def records (K : Dev nD × CellIx → ℕ) : sProp 𝕄 :=
  iprop((bigSep Finset.univ fun ci : Dev nD × CellIx => cellInv ER (sched m) (K ci) (kcell ci))
    ∗ bigSep Finset.univ fun ci : Dev nD × CellIx => reached ER (kcell ci) 0)

instance records_persistent (K : Dev nD × CellIx → ℕ) : BI.Persistent (records m K) := by unfold records; infer_instance

theorem inv_at (K : Dev nD × CellIx → ℕ) (c : Dev nD) (i : CellIx) :
    (records m K : sProp 𝕄) ⊢ cellInv ER (sched m) (K (c, i)) ((c : Thread nD τ), csem i) := by
  unfold records
  exact sep_elim_left.trans (bigSep_elim (Φ := fun ci : Dev nD × CellIx => cellInv ER (sched m) (K ci) (kcell ci)) (Finset.mem_univ (c, i)))
theorem reached_at (K : Dev nD × CellIx → ℕ) (c : Dev nD) (i : CellIx) :
    (records m K : sProp 𝕄) ⊢ reached ER ((c : Thread nD τ), csem i) 0 := by
  unfold records
  exact sep_elim_right.trans (bigSep_elim (Φ := fun ci : Dev nD × CellIx => (reached ER (kcell ci) 0 : sProp 𝕄)) (Finset.mem_univ (c, i)))

/-- Device `c` owes `O`, whatever it has waited on. -/
def ow (c : Dev nD) (O : CellTallies nD τ sig Unit) : sProp 𝕄 := iprop(∃ W, owes (c : Thread nD τ) O W)

variable (K : Dev nD × CellIx → ℕ)

/-- A signal to the device channel `k` leads to: it hands over the slot that device writes. -/
theorem wp_sig {α : Type} {Q : α → sProp 𝕄} {κ : PUnit → Prog (TpuEff nD τ sig (Elt F) Λ₀ .tc) α}
    (c n : Dev nD) (k : Fin 3) (hn : n = sh c k) {w : ℕ} (hw : w = 1) (O : CellTallies nD τ sig Unit) :
    iprop(records m K ∗ ow c (O + owedB c k) ∗ dutyTok ER (barCell (sh c k)) 0 k ∗ slotAny c rM k.rev)
      ⊢ iprop((ow c O -∗ wp frame (wpE (defs₀ (F := F)) 𝒱₀ (c : Thread nD τ) none) Set.univ (κ ⟨⟩) Q)
          -∗ wp frame (wpE (defs₀ (F := F)) 𝒱₀ (c : Thread nD τ) none) Set.univ (.op (.semSignal (n : Thread nD τ) barS w) κ) Q) := by
  subst hn hw
  unfold ow
  iintro ⟨#HR, ⟨%W, HO⟩, Ht, Hs⟩ Hk
  iapply (Rounds.wp_signal 𝒱₀ ER (sched m) (c : Thread nD τ) none (dst := (sh c k : Thread nD τ)) (κ := K (sh c k, iBar))
      (d := k) (by rw [duties_bar]; exact Finset.mem_univ _) rfl () O rfl) $$ [HO Ht Hs]
  · isplitr; · iapply (inv_at m K (sh c k) iBar); iexact HR
    isplitl [HO]; · iexact HO
    isplitl [Ht]; · iexact Ht
    isplitl [Hs]
    · rw [payload_bar]; unfold barPay; rw [back_sh]; iexact Hs
    · iapply (reached_at m K (sh c k) iBar); iexact HR
  iintro HO
  iapply Hk
  iexists W; iexact HO

/-- The wait at the barrier: it brings the slots the transfers write. -/
theorem wp_wait_bar {α : Type} {Q : α → sProp 𝕄} {κ : PUnit → Prog (TpuEff nD τ sig (Elt F) Λ₀ .tc) α}
    (c : Dev nD) {w : ℕ} (hw : w = 3) :
    iprop(records m K ∗ levAts L lv ∗ cred (tallyAt (barCell c) () 3) ∗ ow c (owedXs c) ∗ atPos ER (barCell c) 0 ∅ 0)
      ⊢ iprop(((ow c (owedXs c) ∗ semVal (barCell c) 0 ∗ bigSep Finset.univ fun j => slotAny (sh c j) rM j)
            -∗ wp frame (wpE (defs₀ (F := F)) 𝒱₀ (c : Thread nD τ) none) Set.univ (κ ⟨⟩) Q)
          -∗ wp frame (wpE (defs₀ (F := F)) 𝒱₀ (c : Thread nD τ) none) Set.univ (.op (.semWait barS w) κ) Q) := by
  subst hw
  unfold ow
  iintro ⟨#HR, #Hl, Hc, ⟨%W, HO⟩, Hat⟩ Hk
  iapply (Rounds.wp_wait_rest_token 𝒱₀ ER (sched m) (c : Thread nD τ) none (κ := K (c, iBar))
      (wpE_semWait_eq 𝒱₀ (c : Thread nD τ) none Set.univ) (Set.mem_univ _) () (O := owedXs c) (W := W) (R := 0) (m := 0) (T := ∅)
      (by rw [expect_bar])) $$ [Hc HO Hat]
  · isplitr; · iapply (inv_at m K c iBar); iexact HR
    isplitl [Hc]; · iexact Hc
    isplitl [HO]; · iexact HO
    isplitr; · iapply (mayWait_bar c); iexact Hl
    iexact Hat
  iintro ⟨HO, Hat, -, Hp⟩
  imod (Rounds.cell_close ER (sched m) (Set.mem_univ (K (c, iBar))) (fun h => h) (R := 0 + 1) (duties_later m (barCell c))) $$ [Hat] with Hz
  · isplitr; · iapply (inv_at m K c iBar); iexact HR
    iexact Hat
  iapply Hk
  isplitl [HO]; · iexists _; iexact HO
  isplitl [Hz]; · iexact Hz
  iapply (Entails.of_eq (rest_bar m c)); iexact Hp

/-- The transfer of channel `j`: the block it owed is under way, its departure to be waited for. -/
theorem wp_xfer {α : Type} {Q : α → sProp 𝕄} {κ : PUnit → Prog (TpuEff nD τ sig (Elt F) Λ₀ .tc) α}
    (c n : Dev nD) (j : Fin 3) (hn : n = sh c j)
    {s d : Memref sig .tc .vmem S256x256 .bf16} (hs : s = slotQ yM (src j)) (hd : d = slotQ rM j)
    {sS rS : DmaSem sig} (hS : sS = sendS j) (hR : rS = recvS j)
    {hsc : (d : Memref sig (Dev.tc n : Thread nD τ).2.kind .vmem S256x256 .bf16).view.ref.isScScratch = false}
    {hsrc : s.view.WordExact} {hdst : d.view.WordExact}
    {hsem : DmaTarget.Typed .vmem (.dma rS) (.remote (Dev.tc n : Thread nD τ) d (.dma sS) hsc)}
    (v : Vec F S1x256x256 .bf16) (hv : v = sent m c (sh c j)) (O : CellTallies nD τ sig Unit) :
    iprop(records m K ∗ slotAt c yM (src j) v ∗ slotAny (sh c j) rM j ∗ ow c (O + owedX c j)
        ∗ dutyTok ER (sendCell c j) 0 0 ∗ dutyTok ER (recvCell (sh c j) j) 0 0)
      ⊢ iprop(((cred (tallyAt (sendCell c j) () N) ∗ ow c O) -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma s (.remote (Dev.tc n : Thread nD τ) d (.dma sS) hsc) (.dma rS) hsrc hdst hsem) κ) Q) := by
  subst hn hs hd hS hR hv
  unfold ow slotAny slotAt owns
  iintro ⟨#HR, ⟨%fs, %hfs, Hs⟩, ⟨%v', %fd, -, Hd⟩, ⟨%W, HO⟩, HtS, HtR⟩ Hk
  iapply (Rounds.wp_send_pointsTo 𝒱₀ ER (sched m) (c : Thread nD τ) none (κ₁ := K (c, iSend j)) (κ₂ := K (sh c j, iRecv j))
    (c' := (sh c j : Thread nD τ)) (src := slotQ yM (src j)) (dst := slotQ rM j) (sS := .dma (sendS j)) (sem := .dma (recvS j))
    (r₁ := 0) (r₂ := 0) (d₁ := 0) (d₂ := 0) (fs := fs) (fd := fd) (q := fullShare)
    (by rw [duties_send]; exact Finset.mem_singleton_self _) (by rw [duties_recv]; exact Finset.mem_singleton_self _)
    () () N (credit_r j) rfl rfl O rfl (W := W)
    (by
      rw [payload_send, set_slotQ]; unfold sendPay slotAny slotAt owns
      iintro H; iexists _; iexists fs; isplitr; · ipureintro; rfl
      iexact H)
    (by
      rw [payload_recv, set_slotQ]; unfold recvPay slotAt owns
      rw [back_sh]
      iintro H
      iexists ((slotQ rM j).view.write (Elt F) fd ((slotQ yM (src j)).view.read (Elt F) fs) Finset.univ)
      isplitr; · ipureintro; exact (landed _ _ _ _ _ _).trans hfs
      iexact H)) $$ [Hs Hd HO HtS HtR]
  · isplitr; · iapply (inv_at m K c (iSend j)); iexact HR
    isplitr; · iapply (inv_at m K (sh c j) (iRecv j)); iexact HR
    isplitl [Hs]; · rw [set_slotQ]; iexact Hs
    isplitl [Hd]; · rw [set_slotQ]; iexact Hd
    isplitl [HO]; · iexact HO
    isplitl [HtS]; · iexact HtS
    isplitr; · iapply (reached_at m K c (iSend j)); iexact HR
    isplitl [HtR]; · iexact HtR
    iapply (reached_at m K (sh c j) (iRecv j)); iexact HR
  iintro ⟨Hc, HO⟩
  iapply Hk
  isplitl [Hc]; · iexact Hc
  iexists W; iexact HO

/-- The wait for channel `j`'s departure, owing nothing: the slot comes back. -/
theorem wp_wait_send {α : Type} {Q : α → sProp 𝕄} {κ : PUnit → Prog (TpuEff nD τ sig (Elt F) Λ₀ .tc) α}
    (c : Dev nD) (j : Fin 3) {s d : Memref sig .tc .vmem S256x256 .bf16} (hd : d = slotQ yM (src j))
    {sS : DmaSem sig} (hS : sS = sendS j) {hsrc : s.view.WordExact} {hdst : d.view.WordExact} :
    iprop(records m K ∗ cred (tallyAt (sendCell c j) () N) ∗ ow c 0 ∗ atPos ER (sendCell c j) 0 ∅ 0)
      ⊢ iprop(((ow c 0 ∗ semVal (sendCell c j) 0 ∗ slotAny c yM (src j))
            -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 sS s d hsrc hdst) κ) Q) := by
  subst hd hS
  unfold ow
  iintro ⟨#HR, Hc, ⟨%W, HO⟩, Hat⟩ Hk
  iapply (Rounds.wp_wait_rest_token 𝒱₀ ER (sched m) (c : Thread nD τ) none (κ := K (c, iSend j))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K c (iSend j)); iexact HR
    isplitl [Hc]; · iexact Hc
    isplitl [HO]; · iexact HO
    isplitr; · rw [MayWait_zero]; iempintro
    iexact Hat
  iintro ⟨HO, Hat, -, Hp⟩
  imod (Rounds.cell_close ER (sched m) (Set.mem_univ (K (c, iSend j))) (fun h => h) (R := 0 + 1) (duties_later m (sendCell c j))) $$ [Hat] with Hz
  · isplitr; · iapply (inv_at m K c (iSend j)); iexact HR
    iexact Hat
  iapply Hk
  isplitl [HO]; · iexists _; iexact HO
  isplitl [Hz]; · iexact Hz
  iapply (Entails.of_eq (show _ = slotAny c yM (src j) from rest_send m c j)); iexact Hp

/-- The wait for channel `j`'s arrival, owing nothing: it brings the block the sender computed. -/
theorem wp_wait_recv {α : Type} {Q : α → sProp 𝕄} {κ : PUnit → Prog (TpuEff nD τ sig (Elt F) Λ₀ .tc) α}
    (c : Dev nD) (j : Fin 3) {s d : Memref sig .tc .vmem S256x256 .bf16} (hd : d = slotQ rM j)
    {rS : DmaSem sig} (hR : rS = recvS j) {hsrc : s.view.WordExact} {hdst : d.view.WordExact} :
    iprop(records m K ∗ cred (tallyAt (recvCell c j) () N) ∗ ow c 0 ∗ atPos ER (recvCell c j) 0 ∅ 0)
      ⊢ iprop(((ow c 0 ∗ semVal (recvCell c j) 0 ∗ slotAt c rM j (sent m (back c j) c))
            -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 rS s d hsrc hdst) κ) Q) := by
  subst hd hR
  unfold ow
  iintro ⟨#HR, Hc, ⟨%W, HO⟩, Hat⟩ Hk
  iapply (Rounds.wp_wait_rest_token 𝒱₀ ER (sched m) (c : Thread nD τ) none (κ := K (c, iRecv j))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K c (iRecv j)); iexact HR
    isplitl [Hc]; · iexact Hc
    isplitl [HO]; · iexact HO
    isplitr; · rw [MayWait_zero]; iempintro
    iexact Hat
  iintro ⟨HO, Hat, -, Hp⟩
  imod (Rounds.cell_close ER (sched m) (Set.mem_univ (K (c, iRecv j))) (fun h => h) (R := 0 + 1) (duties_later m (recvCell c j))) $$ [Hat] with Hz
  · isplitr; · iapply (inv_at m K c (iRecv j)); iexact HR
    iexact Hat
  iapply Hk
  isplitl [HO]; · iexists _; iexact HO
  isplitl [Hz]; · iexact Hz
  iapply (Entails.of_eq (show _ = slotAt c rM j (sent m (back c j) c) from rest_recv m c j)); iexact Hp

end Cert.A2A

end
-- ==== Proof.Local.lean ====
module

public import proofs.«01_k».proof.Proof.Steps

/-!
# Loads and stores

The rules for the kernel's loads and stores: the first operand whole, the columns of the second
operand that belong to a device, a slot of a scratch buffer, and the rows of the result that a device
contributes.  An access names its offsets by a computation; each rule takes the closed form of that
computation as a hypothesis.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The first operand, the second operand and the result, as staged on device `c`. -/
abbrev xPts (c : Dev nD) (f : (cc0_stg0_0 : Ref sig .tc).ty.Contents (Elt F)) : sProp 𝕄 := ((c : Thread nD τ).loc cc0_stg0_0) ↦{fullShare} f
abbrev wPts (c : Dev nD) (f : (cc0_stg1_0 : Ref sig .tc).ty.Contents (Elt F)) : sProp 𝕄 := ((c : Thread nD τ).loc cc0_stg1_0) ↦{fullShare} f
abbrev oPts (c : Dev nD) (f : (cc0_stg2_0 : Ref sig .tc).ty.Contents (Elt F)) : sProp 𝕄 := ((c : Thread nD τ).loc cc0_stg2_0) ↦{fullShare} f

theorem hz2 : (![0, 0] : Fin 2 → Nat) = fun _ => 0 := funext fun a => by fin_cases a <;> rfl

/-- Loading the first operand. -/
theorem wp_load_x {α : Type} {Q : α → sProp 𝕄} (c : Dev nD) (f : (cc0_stg0_0 : Ref sig .tc).ty.Contents (Elt F))
    {hl : xM.view.LoadsAt (Rect.unit (s := S256x1024) ![0, 0] S256x1024.size inb_S256x1024_S256x1024_0_0).toLoadRect}
    {κ : Vec F S256x1024 .f32 → Prog (TpuEff nD τ sig (Elt F) Λ₀ .tc) α} :
    (xPts c f : sProp 𝕄)
      ⊢ iprop((xPts c f -∗ wp frame (wpE (defs₀ (F := F)) 𝒱₀ (c : Thread nD τ) none) Set.univ (κ f) Q)
          -∗ wp frame (wpE (defs₀ (F := F)) 𝒱₀ (c : Thread nD τ) none) Set.univ
              (.op (.load xM (Rect.unit (s := S256x1024) ![0, 0] S256x1024.size inb_S256x1024_S256x1024_0_0).toLoadRect hl) κ) Q) := by
  iintro H Hk
  iapply (wp_load (defs := defs₀ (F := F)) (Q := Q) (f := f) (hl := hl) (q := fullShare) (k := κ) (S := Finset.univ) 𝒱₀ (c : Thread nD τ) none Set.univ (m := xM) (Finset.subset_univ _)) $$ H
  iintro H
  rw [show xM.view.readAt (Elt F) (Rect.unit (s := S256x1024) ![0, 0] S256x1024.size inb_S256x1024_S256x1024_0_0).toLoadRect f = f from
    Memref.readAt_unit_zero (Elt F) cc0_stg0_0 hz2 _ f]
  iapply Hk
  iexact H

/-- Loading device `d`'s columns of the second operand. -/
theorem wp_load_cols {α : Type} {Q : α → sProp 𝕄} (c d : Dev nD) (f : (cc0_stg1_0 : Ref sig .tc).ty.Contents (Elt F))
    {off : Fin 2 → ℕ} (ho : off = ![0, 256 * d.val]) {inb : ∀ a, off a + S1024x256.size a ≤ S1024x1024.size a}
    {hl : wM.view.LoadsAt (Rect.unit (s := S1024x1024) off S1024x256.size inb).toLoadRect}
    {κ : Vec F S1024x256 .f32 → Prog (TpuEff nD τ sig (Elt F) Λ₀ .tc) α} :
    (wPts c f : sProp 𝕄)
      ⊢ iprop((wPts c f -∗ wp frame (wpE (defs₀ (F := F)) 𝒱₀ (c : Thread nD τ) none) Set.univ (κ (cols f d)) Q)
          -∗ wp frame (wpE (defs₀ (F := F)) 𝒱₀ (c : Thread nD τ) none) Set.univ
              (.op (.load wM (Rect.unit (s := S1024x1024) off S1024x256.size inb).toLoadRect hl) κ) Q) := by
  subst ho
  exact wp_load (defs := defs₀ (F := F)) (Q := Q) (f := f) (hl := hl) (q := fullShare) (k := κ) (S := Finset.univ) 𝒱₀ (c : Thread nD τ) none Set.univ (m := wM) (Finset.subset_univ _)

/-- Loading a slot. -/
theorem wp_load_slot {α : Type} {Q : α → sProp 𝕄} (c : Dev nD) (M : Memref sig .tc .vmem S3x256x256 .bf16) (k : Fin 3) (v : Vec F S1x256x256 .bf16)
    {off : Fin 3 → ℕ} (ho : off = ![k.val, 0, 0]) {inb : ∀ a, off a + S1x256x256.size a ≤ S3x256x256.size a}
    {hl : M.view.LoadsAt (Rect.unit (s := S3x256x256) off S1x256x256.size inb).toLoadRect}
    {κ : Vec F S1x256x256 .bf16 → Prog (TpuEff nD τ sig (Elt F) Λ₀ .tc) α} :
    (slotAt c M k v : sProp 𝕄)
      ⊢ iprop((slotAt c M k v -∗ wp frame (wpE (defs₀ (F := F)) 𝒱₀ (c : Thread nD τ) none) Set.univ (κ v) Q)
          -∗ wp frame (wpE (defs₀ (F := F)) 𝒱₀ (c : Thread nD τ) none) Set.univ
              (.op (.load M (Rect.unit (s := S3x256x256) off S1x256x256.size inb).toLoadRect hl) κ) Q) := by
  subst ho
  unfold slotAt owns
  iintro ⟨%f, %hf, H⟩ Hk
  iapply (wp_load_rect (defs := defs₀ (F := F)) (Q := Q) (f := f) (hl := hl) (q := fullShare) (k := κ) (S := (slotM M k).view.set)
    𝒱₀ (c : Thread nD τ) none Set.univ (m := M) (r := slotR k) (Finset.Subset.refl _)) $$ H
  iintro H
  rw [show (M.access (slotR k)).read (Elt F) f = v from hf]
  iapply Hk
  iexists f
  isplitr; · ipureintro; exact hf
  iexact H

/-- Storing a slot. -/
theorem wp_store_slot {α : Type} {Q : α → sProp 𝕄} (c : Dev nD) (M : Memref sig .tc .vmem S3x256x256 .bf16) (k : Fin 3) (v w : Vec F S1x256x256 .bf16)
    {off : Fin 3 → ℕ} (ho : off = ![k.val, 0, 0]) {inb : ∀ a, off a + S1x256x256.size a ≤ S3x256x256.size a}
    {hx : (M.access (Rect.unit (s := S3x256x256) off S1x256x256.size inb)).Stores Finset.univ}
    {hm : (Finset.univ : Finset (Rect.unit (s := S3x256x256) off S1x256x256.size inb).shape.Idx) = Finset.univ
      ∨ ∀ a, (Rect.unit (s := S3x256x256) off S1x256x256.size inb).stride a = 1}
    {κ : PUnit → Prog (TpuEff nD τ sig (Elt F) Λ₀ .tc) α} :
    (slotAt c M k v : sProp 𝕄)
      ⊢ iprop((slotAt c M k w -∗ wp frame (wpE (defs₀ (F := F)) 𝒱₀ (c : Thread nD τ) none) Set.univ (κ ⟨⟩) Q)
          -∗ wp frame (wpE (defs₀ (F := F)) 𝒱₀ (c : Thread nD τ) none) Set.univ
              (.op (.store M (Rect.unit (s := S3x256x256) off S1x256x256.size inb) w Finset.univ hx hm) κ) Q) := by
  subst ho
  unfold slotAt owns
  iintro ⟨%f, -, H⟩ Hk
  iapply (wp_store (defs := defs₀ (F := F)) (Q := Q) (f := f) (hx := hx) (hm := hm) (k := κ) (w := w) (S := (slotM M k).view.set)
    𝒱₀ (c : Thread nD τ) none Set.univ (m := M) (r := slotR k) (Mk := Finset.univ) (Finset.Subset.refl _)) $$ H
  iintro H
  iapply Hk
  iexists ((M.access (slotR k)).write (Elt F) f w Finset.univ)
  isplitr; · ipureintro; exact View.read_write_univ _ _
  iexact H

/-! ## The result -/

/-- The row of a block that a row of the result is. -/
def inBlock (i : S1024x256.Idx) : S256x256.Idx := fun a => match a with
  | ⟨0, _⟩ => (⟨(i 0).val % 256, Nat.mod_lt _ (by decide)⟩ : Fin 256)
  | ⟨1, _⟩ => i 1
  | ⟨n + 2, h⟩ => absurd h (Nat.not_lt.2 (Nat.le_add_left _ _))

/-- The result `f` with device `d`'s rows replaced by `v`. -/
def setRows (f : (cc0_stg2_0 : Ref sig .tc).ty.Contents (Elt F)) (d : Dev nD) (v : Vec F S256x256 .f32) : (cc0_stg2_0 : Ref sig .tc).ty.Contents (Elt F) :=
  fun i : S1024x256.Idx => if (i 0).val / 256 = d.val then v (inBlock i) else f i

theorem write_rows (f : (cc0_stg2_0 : Ref sig .tc).ty.Contents (Elt F)) (d : Dev nD) (v : Vec F S256x256 .f32) :
    (oM.access (rowsR d)).write (Elt F) f v Finset.univ = setRows f d v := by
  funext i
  change S1024x256.Idx at i
  unfold setRows
  by_cases h : (i 0).val / 256 = d.val
  · rw [if_pos h]
    have hi : (oM.access (rowsR d)).emb (inBlock i) = i := by
      funext a
      fin_cases a
      · exact Fin.ext (by show 256 * d.val + 1 * ((i 0).val % 256) = (i 0).val; omega)
      · exact Fin.ext (by show 0 + 1 * (i 1).val = (i 1).val; omega)
    have hw := View.write_emb_of_mem (v := oM.access (rowsR d)) (Val := Elt F) f v (M := Finset.univ) (Finset.mem_univ (inBlock i))
    rw [hi] at hw
    exact hw
  · rw [if_neg h]
    refine View.write_of_not_mem (v := oM.access (rowsR d)) (Val := Elt F) f v Finset.univ fun hm => h ?_
    obtain ⟨x, -, hx⟩ := Finset.mem_map.mp hm
    have h0 : 256 * d.val + 1 * (x 0).val = (i 0).val := congrArg (fun y : S1024x256.Idx => (y 0).val) hx
    have : (x 0).val < 256 := (x 0).isLt
    omega

/-- Loading rows of the result; the kernel does not use what it loads. -/
theorem wp_load_rows {α : Type} {Q : α → sProp 𝕄} (c : Dev nD) (f : (cc0_stg2_0 : Ref sig .tc).ty.Contents (Elt F))
    {off : Fin 2 → ℕ} {inb : ∀ a, off a + S256x256.size a ≤ S1024x256.size a}
    {hl : oM.view.LoadsAt (Rect.unit (s := S1024x256) off S256x256.size inb).toLoadRect}
    {κ : Prog (TpuEff nD τ sig (Elt F) Λ₀ .tc) α} :
    (oPts c f : sProp 𝕄)
      ⊢ iprop((oPts c f -∗ wp frame (wpE (defs₀ (F := F)) 𝒱₀ (c : Thread nD τ) none) Set.univ κ Q)
          -∗ wp frame (wpE (defs₀ (F := F)) 𝒱₀ (c : Thread nD τ) none) Set.univ
              (.op (.load oM (Rect.unit (s := S1024x256) off S256x256.size inb).toLoadRect hl) fun _ => κ) Q) :=
  wp_load (defs := defs₀ (F := F)) (Q := Q) (f := f) (hl := hl) (q := fullShare) (k := fun _ => κ) (S := Finset.univ) 𝒱₀ (c : Thread nD τ) none Set.univ (m := oM) (Finset.subset_univ _)

/-- Storing device `d`'s rows of the result. -/
theorem wp_store_rows {α : Type} {Q : α → sProp 𝕄} (c d : Dev nD) (f : (cc0_stg2_0 : Ref sig .tc).ty.Contents (Elt F)) (v : Vec F S256x256 .f32)
    {off : Fin 2 → ℕ} (ho : off = ![256 * d.val, 0]) {inb : ∀ a, off a + S256x256.size a ≤ S1024x256.size a}
    {hx : (oM.access (Rect.unit (s := S1024x256) off S256x256.size inb)).Stores Finset.univ}
    {hm : (Finset.univ : Finset (Rect.unit (s := S1024x256) off S256x256.size inb).shape.Idx) = Finset.univ
      ∨ ∀ a, (Rect.unit (s := S1024x256) off S256x256.size inb).stride a = 1}
    {κ : PUnit → Prog (TpuEff nD τ sig (Elt F) Λ₀ .tc) α} :
    (oPts c f : sProp 𝕄)
      ⊢ iprop((oPts c (setRows f d v) -∗ wp frame (wpE (defs₀ (F := F)) 𝒱₀ (c : Thread nD τ) none) Set.univ (κ ⟨⟩) Q)
          -∗ wp frame (wpE (defs₀ (F := F)) 𝒱₀ (c : Thread nD τ) none) Set.univ
              (.op (.store oM (Rect.unit (s := S1024x256) off S256x256.size inb) v Finset.univ hx hm) κ) Q) := by
  subst ho
  rw [← write_rows]
  exact wp_store (defs := defs₀ (F := F)) (Q := Q) (f := f) (hx := hx) (hm := hm) (k := κ) (w := v) (S := Finset.univ)
    𝒱₀ (c : Thread nD τ) none Set.univ (m := oM) (r := rowsR d) (Mk := Finset.univ) (Finset.subset_univ _)

variable (m : (ℓ : Loc nD τ sig) → Buf (Elt F) ℓ)

/-- The block of device `c`'s result that device `d` contributes. -/
def blockOut (c d : Dev nD) : Vec F S256x256 .f32 :=
  if d = c then k0_pay6 (xstg m c) (cols (wstg m c) c) else k0_pay1 (sent m d c)

/-- The result on device `c`: the devices' blocks, one below the other. -/
def outAt (c : Dev nD) : (cc0_stg2_0 : Ref sig .tc).ty.Contents (Elt F) :=
  fun i : S1024x256.Idx => blockOut m c (⟨(i 0).val / 256, by have h : (i 0).val < 1024 := (i 0).isLt; show (i 0).val / 256 < 4; omega⟩ : Dev nD) (inBlock i)

theorem four (c d : Dev nD) : d = c ∨ d = back c 0 ∨ d = back c 2 ∨ d = back c 1 := by revert c d; decide

/-- After its four stores, whatever it held before, the result is the four blocks. -/
theorem out_eq (c : Dev nD) (f : (cc0_stg2_0 : Ref sig .tc).ty.Contents (Elt F)) :
    setRows (setRows (setRows (setRows f c (k0_pay6 (xstg m c) (cols (wstg m c) c))) (back c 0) (k0_pay1 (sent m (back c 0) c)))
      (back c 2) (k0_pay1 (sent m (back c 2) c))) (back c 1) (k0_pay1 (sent m (back c 1) c)) = outAt m c := by
  funext i
  change S1024x256.Idx at i
  unfold outAt
  generalize hd : (⟨(i 0).val / 256, _⟩ : Dev nD) = d
  have hv : (i 0).val / 256 = d.val := congrArg Fin.val hd
  unfold setRows blockOut
  have e (d' : Dev nD) : ((i 0).val / 256 = d'.val) = (d = d') := propext ⟨fun h => Fin.ext (hv.symm.trans h), fun h => h ▸ hv⟩
  simp only [e]
  have h01 : back c 0 ≠ back c 1 := fun h => absurd (back_injective c h) (by decide)
  have h02 : back c 0 ≠ back c 2 := fun h => absurd (back_injective c h) (by decide)
  have h21 : back c 2 ≠ back c 1 := fun h => absurd (back_injective c h) (by decide)
  rcases four c d with rfl | rfl | rfl | rfl
  · rw [if_neg (back_ne d 1).symm, if_neg (back_ne d 2).symm, if_neg (back_ne d 0).symm, if_pos rfl, if_pos rfl]
  · rw [if_neg h01, if_neg h02, if_pos rfl, if_neg (back_ne c 0)]
  · rw [if_neg h21, if_pos rfl, if_neg (back_ne c 2)]
  · rw [if_pos rfl, if_neg (back_ne c 1)]

end Cert.A2A

end
-- ==== Proof.Data.lean ====
module

public import proofs.«01_k».proof.Proof.Local

/-!
# What the kernel holds before and after

What a device holds when its kernel starts, what it holds when its kernel has finished, and what its
staging buffers then contain.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The two semaphores of the kernel's arrays that no channel uses. -/
def idle (c : Dev nD) : sProp 𝕄 :=
  iprop(semVal ((c : Thread nD τ), .dma (⟨3, by decide⟩ : Fin 11)) 0 ∗ semVal ((c : Thread nD τ), .dma (⟨7, by decide⟩ : Fin 11)) 0)

/-- Where a device stands: at the start of each of its semaphores' rounds. -/
def stand (c : Dev nD) : sProp 𝕄 :=
  iprop(atPos ER (barCell c) 0 ∅ 0 ∗ (bigSep Finset.univ fun j => atPos ER (sendCell c j) 0 ∅ 0)
    ∗ bigSep Finset.univ fun j => atPos ER (recvCell c j) 0 ∅ 0)

/-- What lets a device pay: its signals, its departures, the arrivals it causes. -/
def payToks (c : Dev nD) : sProp 𝕄 :=
  iprop((bigSep Finset.univ fun k => dutyTok ER (barCell (sh c k)) 0 k)
    ∗ (bigSep Finset.univ fun j => dutyTok ER (sendCell c j) 0 0)
    ∗ bigSep Finset.univ fun j => dutyTok ER (recvCell (sh c j) j) 0 0)

/-- A device's share of the exchange, the schedule kept under the names `K`. -/
def ghost (K : Dev nD × CellIx → ℕ) (c : Dev nD) : sProp 𝕄 :=
  iprop(records m K ∗ stand c ∗ payToks c ∗ idle c)

/-- What the launch gives a device: its share, the credit of what the others owe it, the order of waiting. -/
def start (c : Dev nD) : sProp 𝕄 :=
  iprop((∃ K, ghost m K c) ∗ cred (tallyAt (barCell c) () 3) ∗ (bigSep Finset.univ fun j => cred (tallyAt (recvCell c j) () N)) ∗ levAts L lv)

/-- A scratch buffer, by its slots. -/
def scr (c : Dev nD) (M : Memref sig .tc .vmem S3x256x256 .bf16) : sProp 𝕄 := bigSep Finset.univ fun k => slotAny c M k

/-- Before the kernel; -/
def Φ₀ (c : Dev nD) : sProp 𝕄 := iprop(start m c ∗ scr c yM ∗ scr c rM)
/-- after it, every semaphore at zero. -/
def Φ₁ (c : Dev nD) : sProp 𝕄 :=
  iprop(scr c yM ∗ scr c rM ∗ semVal (barCell c) 0 ∗ (bigSep Finset.univ fun j => semVal (sendCell c j) 0)
    ∗ (bigSep Finset.univ fun j => semVal (recvCell c j) 0) ∗ idle c)

/-- The proof data of the kernel's pipeline. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

theorem bigSep_fin3 (Φ : Fin 3 → sProp 𝕄) : bigSep Finset.univ Φ = iprop(Φ 0 ∗ Φ 1 ∗ Φ 2) :=
  bigSep_univ_eq_bigSepL [0, 1, 2] (by decide) (by decide) Φ

end Cert.A2A

end
-- ==== Proof.Body.lean ====
module

public import proofs.«01_k».proof.Proof.Data

/-!
# The kernel's run on one device

The kernel, step by step: three signals, the first block and the barrier, the transfers with the
blocks computed between them, the device's own block, and the six waits with the arriving blocks
copied into the result.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CellIx → ℕ)

/-- What the kernel starts from: the device's share, the scratch slots, the debt, the staged buffers. -/
def bodyPre (c : Dev nD) : sProp 𝕄 :=
  iprop((ghost m K c ∗ cred (tallyAt (barCell c) () 3) ∗ (bigSep Finset.univ fun j => cred (tallyAt (recvCell c j) () N)) ∗ levAts L lv)
    ∗ (scr c yM ∗ scr c rM) ∗ ow c (owed₀ c) ∗ xPts c (xstg m c) ∗ wPts c (wstg m c) ∗ ∃ f, oPts c f)

/-- What the kernel ends with: everything returned, no debt, and the result staged. -/
def bodyPost (c : Dev nD) : sProp 𝕄 :=
  iprop(Φ₁ c ∗ ow c 0 ∗ xPts c (xstg m c) ∗ wPts c (wstg m c) ∗ oPts c (outAt m c))

/-- A slot starts and ends on whole words. -/
theorem words (M : Memref sig .tc .vmem S3x256x256 .bf16) (h : M.IsWhole) (k : Fin 3) : (slotQ M k).view.WordExact := by
  fin_cases k
  · exact (h.wordExact_slice rfl _ wordsbf16_S3x256x256_S1x256x256_0_0_0).reshape _ _
  · exact (h.wordExact_slice rfl _ wordsbf16_S3x256x256_S1x256x256_1_0_0).reshape _ _
  · exact (h.wordExact_slice rfl _ wordsbf16_S3x256x256_S1x256x256_2_0_0).reshape _ _
theorem words_y (k : Fin 3) : (slotQ yM k).view.WordExact := words yM (Memref.isWhole_whole _) k
theorem words_r (k : Fin 3) : (slotQ rM k).view.WordExact := words rM (Memref.isWhole_whole _) k

set_option maxHeartbeats 1600000 in
/-- The kernel takes a device from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body xM (Memref.isWhole_whole _) wM (Memref.isWhole_whole _) oM (Memref.isWhole_whole _)
            yM (Memref.isWhole_whole _) rM (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost stand payToks scr owed₀
  simp only [bigSep_fin3]
  iintro ⟨⟨⟨⟨#HR, ⟨HaB, ⟨HaS0, HaS1, HaS2⟩, HaR0, HaR1, HaR2⟩, ⟨⟨HtB0, HtB1, HtB2⟩, ⟨HtS0, HtS1, HtS2⟩, HtR0, HtR1, HtR2⟩, Hidle⟩, HcB, ⟨HcR0, HcR1, HcR2⟩, #Hl⟩,
    ⟨⟨⟨%y0, Hy0⟩, ⟨%y1, Hy1⟩, ⟨%y2, Hy2⟩⟩, Hr0, Hr1, Hr2⟩, HO, Hx, Hw, ⟨%fo, Ho⟩⟩, Hk⟩
  -- the three signals, each handing over the slot the other device writes
  iapply (wp_sig m K c _ 0 (dev1_eq c) rfl (owedXs c + owedB c 2 + owedB c 1)) $$ [HO HtB0 Hr2]
  · isplitr; · iexact HR
    isplitl [HO]; · iexact HO
    isplitl [HtB0]; · iexact HtB0
    iexact Hr2
  iintro HO
  iapply (wp_sig m K c _ 1 (dev2_eq c) rfl (owedXs c + owedB c 2)) $$ [HO HtB1 Hr1]
  · isplitr; · iexact HR
    isplitl [HO]; · iexact HO
    isplitl [HtB1]; · iexact HtB1
    iexact Hr1
  iintro HO
  iapply (wp_sig m K c _ 2 (dev3_eq c) rfl (owedXs c)) $$ [HO HtB2 Hr0]
  · isplitr; · iexact HR
    isplitl [HO]; · iexact HO
    isplitl [HtB2]; · iexact HtB2
    iexact Hr0
  iintro HO
  -- the first block
  iapply (wp_load_x c (xstg m c)) $$ Hx; iintro Hx
  iapply (wp_load_cols c (sh c 1) (wstg m c) (off1_1 c)) $$ Hw; iintro Hw
  iapply (wp_load_slot c yM 0 y0 rfl) $$ Hy0; iintro Hy0
  iapply (wp_store_slot c yM 0 y0 _ rfl) $$ Hy0; iintro Hy0
  -- the barrier
  iapply (wp_wait_bar m K c rfl) $$ [HcB HO HaB]
  · isplitr; · iexact HR
    isplitr; · iexact Hl
    isplitl [HcB]; · iexact HcB
    isplitl [HO]; · iexact HO
    iexact HaB
  rw [bigSep_fin3]
  iintro ⟨HO, HzB, Hd0, Hd1, Hd2⟩
  unfold owedXs
  -- the transfers, the other blocks computed between them
  iapply (wp_xfer m K c _ 1 (dev4_eq c) rfl rfl send_sem2 recv_sem2 _ rfl (0 + owedX c 2 + owedX c 0)) $$ [Hy0 Hd1 HO HtS1 HtR1]
  · isplitr; · iexact HR
    isplitl [Hy0]; · iexact Hy0
    isplitl [Hd1]; · iexact Hd1
    isplitl [HO]; · iexact HO
    isplitl [HtS1]; · iexact HtS1
    iexact HtR1
  iintro ⟨HcS1, HO⟩
  iapply (wp_load_x c (xstg m c)) $$ Hx; iintro Hx
  iapply (wp_load_cols c (sh c 0) (wstg m c) (off1_0 c)) $$ Hw; iintro Hw
  iapply (wp_load_slot c yM 1 y1 rfl) $$ Hy1; iintro Hy1
  iapply (wp_store_slot c yM 1 y1 _ rfl) $$ Hy1; iintro Hy1
  iapply (wp_xfer m K c _ 0 (dev5_eq c) rfl rfl send_sem1 recv_sem1 _ rfl (0 + owedX c 2)) $$ [Hy1 Hd0 HO HtS0 HtR0]
  · isplitr; · iexact HR
    isplitl [Hy1]; · iexact Hy1
    isplitl [Hd0]; · iexact Hd0
    isplitl [HO]; · iexact HO
    isplitl [HtS0]; · iexact HtS0
    iexact HtR0
  iintro ⟨HcS0, HO⟩
  iapply (wp_load_x c (xstg m c)) $$ Hx; iintro Hx
  iapply (wp_load_cols c (sh c 2) (wstg m c) (off1_2 c)) $$ Hw; iintro Hw
  iapply (wp_load_slot c yM 2 y2 rfl) $$ Hy2; iintro Hy2
  iapply (wp_store_slot c yM 2 y2 _ rfl) $$ Hy2; iintro Hy2
  iapply (wp_xfer m K c _ 2 (dev6_eq c) rfl rfl send_sem3 recv_sem3 _ rfl 0) $$ [Hy2 Hd2 HO HtS2 HtR2]
  · isplitr; · iexact HR
    isplitl [Hy2]; · iexact Hy2
    isplitl [Hd2]; · iexact Hd2
    isplitl [HO]; · iexact HO
    isplitl [HtS2]; · iexact HtS2
    iexact HtR2
  iintro ⟨HcS2, HO⟩
  -- the device's own block
  iapply (wp_load_x c (xstg m c)) $$ Hx; iintro Hx
  iapply (wp_load_cols c c (wstg m c) (k0_off2_eq c)) $$ Hw; iintro Hw
  iapply (wp_load_rows c _) $$ Ho; iintro Ho
  iapply (wp_store_rows c c _ _ (k0_off3_eq c)) $$ Ho; iintro Ho
  -- the departures
  iapply (wp_wait_send m K c 1 rfl send_sem2 (hsrc := words_r 1) (hdst := words_y (src 1))) $$ [HcS1 HO HaS1]
  · isplitr; · iexact HR
    isplitl [HcS1]; · iexact HcS1
    isplitl [HO]; · iexact HO
    iexact HaS1
  iintro ⟨HO, HzS1, Hy0⟩
  iapply (wp_wait_send m K c 0 rfl send_sem1 (hsrc := words_r 0) (hdst := words_y (src 0))) $$ [HcS0 HO HaS0]
  · isplitr; · iexact HR
    isplitl [HcS0]; · iexact HcS0
    isplitl [HO]; · iexact HO
    iexact HaS0
  iintro ⟨HO, HzS0, Hy1⟩
  iapply (wp_wait_send m K c 2 rfl send_sem3 (hsrc := words_r 2) (hdst := words_y (src 2))) $$ [HcS2 HO HaS2]
  · isplitr; · iexact HR
    isplitl [HcS2]; · iexact HcS2
    isplitl [HO]; · iexact HO
    iexact HaS2
  iintro ⟨HO, HzS2, Hy2⟩
  -- the arrivals, each copied into the result
  iapply (wp_wait_recv m K c 0 rfl recv_sem1 (hsrc := words_y 0) (hdst := words_r 0)) $$ [HcR0 HO HaR0]
  · isplitr; · iexact HR
    isplitl [HcR0]; · iexact HcR0
    isplitl [HO]; · iexact HO
    iexact HaR0
  iintro ⟨HO, HzR0, Hr0⟩
  iapply (wp_load_slot c rM 0 _ rfl) $$ Hr0; iintro Hr0
  iapply (wp_load_rows c _) $$ Ho; iintro Ho
  iapply (wp_store_rows c (back c 0) _ _ (off4_0 c)) $$ Ho; iintro Ho
  iapply (wp_wait_recv m K c 2 rfl recv_sem3 (hsrc := words_y 0) (hdst := words_r 2)) $$ [HcR2 HO HaR2]
  · isplitr; · iexact HR
    isplitl [HcR2]; · iexact HcR2
    isplitl [HO]; · iexact HO
    iexact HaR2
  iintro ⟨HO, HzR2, Hr2⟩
  iapply (wp_load_slot c rM 2 _ rfl) $$ Hr2; iintro Hr2
  iapply (wp_load_rows c _) $$ Ho; iintro Ho
  iapply (wp_store_rows c (back c 2) _ _ (off4_2 c)) $$ Ho; iintro Ho
  iapply (wp_wait_recv m K c 1 rfl recv_sem2 (hsrc := words_y 0) (hdst := words_r 1)) $$ [HcR1 HO HaR1]
  · isplitr; · iexact HR
    isplitl [HcR1]; · iexact HcR1
    isplitl [HO]; · iexact HO
    iexact HaR1
  iintro ⟨HO, HzR1, Hr1⟩
  iapply (wp_load_slot c rM 1 _ rfl) $$ Hr1; iintro Hr1
  iapply (wp_load_rows c _) $$ Ho; iintro Ho
  iapply (wp_store_rows c (back c 1) _ _ (off4_1 c)) $$ Ho; iintro Ho
  rw [wp_ret]; imodintro
  iapply Hk
  unfold bodyPost Φ₁ scr
  simp only [bigSep_fin3]
  isplitl [Hy0 Hy1 Hy2 Hr0 Hr1 Hr2 HzB HzS0 HzS1 HzS2 HzR0 HzR1 HzR2 Hidle]
  · isplitl [Hy0 Hy1 Hy2]
    · isplitl [Hy0]; · iexact Hy0
      isplitl [Hy1]; · iexact Hy1
      iexact Hy2
    isplitl [Hr0 Hr1 Hr2]
    · isplitl [Hr0]; · iexists _; iexact Hr0
      isplitl [Hr1]; · iexists _; iexact Hr1
      iexists _; iexact Hr2
    isplitl [HzB]; · iexact HzB
    isplitl [HzS0 HzS1 HzS2]
    · isplitl [HzS0]; · iexact HzS0
      isplitl [HzS1]; · iexact HzS1
      iexact HzS2
    isplitl [HzR0 HzR1 HzR2]
    · isplitl [HzR0]; · iexact HzR0
      isplitl [HzR1]; · iexact HzR1
      iexact HzR2
    iexact Hidle
  isplitl [HO]; · iexact HO
  isplitl [Hx]; · iexact Hx
  isplitl [Hw]; · iexact Hw
  rw [← out_eq m c fo]
  iexact Ho

end Cert.A2A

end
-- ==== Proof.Deal.lean ====
module

public import proofs.«01_k».proof.Proof.Data

/-!
# Sharing out the exchange

At the start every device's semaphores are put under the schedule, and every device gets its share:
where its own semaphores stand, and the right to pay what it will pay to the other devices.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- The semaphores of the kernel's two arrays. -/
def osem (k : Fin 8) : SemLoc sig := .dma (⟨k.val + 3, by have := k.isLt; show k.val + 3 < 11; omega⟩ : Fin 11)

theorem ownSemFacts : Pipeline.OwnSemFacts cfg0.spec osem := by decide

/-- A conjunction over a device's semaphores, kind by kind. -/
theorem bigSep_cells (Φ : CellIx → sProp 𝕄) :
    bigSep Finset.univ Φ = iprop(Φ iBar ∗ (bigSep Finset.univ fun j => Φ (iSend j)) ∗ bigSep Finset.univ fun j => Φ (iRecv j)) := by
  rw [BI.bigSep_univ_sum, BI.bigSep_univ_sum]
  congr 1
  exact bigSep_univ_eq_bigSepL [()] (by decide) (by decide) fun u => Φ (.inl u)

theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0
      ∗ semVal ((c : Thread nD τ), osem 3) 0 ∗ semVal ((c : Thread nD τ), osem 4) 0 ∗ semVal ((c : Thread nD τ), osem 5) 0
      ∗ semVal ((c : Thread nD τ), osem 6) 0 ∗ semVal ((c : Thread nD τ), osem 7) 0) := by
  rw [Pipeline.ownSems0_eq_of_list c osem [0, 1, 2, 3, 4, 5, 6, 7] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters at zero are those of the exchange and the two idle ones. -/
theorem own_sems (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ (bigSep Finset.univ fun j => semVal (recvCell c j) 0) ∗ idle c) := by
  have h : iprop(semVal ((c : Thread nD τ), osem 0) 0 ∗ semVal ((c : Thread nD τ), osem 1) 0 ∗ semVal ((c : Thread nD τ), osem 2) 0
      ∗ semVal ((c : Thread nD τ), osem 3) 0 ∗ semVal ((c : Thread nD τ), osem 4) 0 ∗ semVal ((c : Thread nD τ), osem 5) 0
      ∗ semVal ((c : Thread nD τ), osem 6) 0 ∗ semVal ((c : Thread nD τ), osem 7) 0)
      ⊢ (iprop((semVal (sendCell c 0) 0 ∗ semVal (sendCell c 1) 0 ∗ semVal (sendCell c 2) 0)
        ∗ (semVal (recvCell c 0) 0 ∗ semVal (recvCell c 1) 0 ∗ semVal (recvCell c 2) 0) ∗ idle c) : sProp 𝕄) := by
    unfold idle
    iintro ⟨H0, H1, H2, H3, H4, H5, H6, H7⟩
    isplitl [H1 H2 H3]
    · isplitl [H1]; · iexact H1
      isplitl [H2]; · iexact H2
      iexact H3
    isplitl [H5 H6 H7]
    · isplitl [H5]; · iexact H5
      isplitl [H6]; · iexact H6
      iexact H7
    isplitl [H0]; · iexact H0
    iexact H4
  have h' : (iprop((semVal (sendCell c 0) 0 ∗ semVal (sendCell c 1) 0 ∗ semVal (sendCell c 2) 0)
        ∗ (semVal (recvCell c 0) 0 ∗ semVal (recvCell c 1) 0 ∗ semVal (recvCell c 2) 0) ∗ idle c) : sProp 𝕄)
      ⊢ iprop(semVal ((c : Thread nD τ), osem 0) 0 ∗ semVal ((c : Thread nD τ), osem 1) 0 ∗ semVal ((c : Thread nD τ), osem 2) 0
      ∗ semVal ((c : Thread nD τ), osem 3) 0 ∗ semVal ((c : Thread nD τ), osem 4) 0 ∗ semVal ((c : Thread nD τ), osem 5) 0
      ∗ semVal ((c : Thread nD τ), osem 6) 0 ∗ semVal ((c : Thread nD τ), osem 7) 0) := by
    unfold idle
    iintro ⟨⟨H1, H2, H3⟩, ⟨H5, H6, H7⟩, H0, H4⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [ownSems0_eq, bigSep_fin3, bigSep_fin3]
  exact BI.equiv_iff.mp ⟨h, h'⟩

/-! ## Tokens -/

/-- A device's duties: the three units of its barrier, each channel's departure, each channel's arrival. -/
abbrev TokIx : Type := Fin 3 ⊕ (Fin 3 ⊕ Fin 3)
abbrev tokOf (ct : Dev nD × TokIx) : GSem nD τ sig × ℕ × Fin 3 := match ct.2 with
  | .inl k => (barCell ct.1, 0, k)
  | .inr (.inl j) => (sendCell ct.1 j, 0, 0)
  | .inr (.inr j) => (recvCell ct.1 j, 0, 0)

abbrev tokKey : TokIx → SemLoc sig × Fin 3
  | .inl k => (.reg barS, k)
  | .inr (.inl j) => (.dma (sendS j), 0)
  | .inr (.inr j) => (.dma (recvS j), 0)
theorem tokKey_injective : Function.Injective tokKey := by decide
theorem tokOf_key (ct : Dev nD × TokIx) : ((tokOf ct).1, (tokOf ct).2.2) = (((ct.1 : Thread nD τ), (tokKey ct.2).1), (tokKey ct.2).2) := by
  obtain ⟨c, k | j | j⟩ := ct <;> rfl
theorem tokOf_injective : Function.Injective tokOf := by
  rintro ⟨c, t⟩ ⟨c', t'⟩ h
  have h1 := congrArg (fun x : GSem nD τ sig × ℕ × Fin 3 => (x.1, x.2.2)) h
  simp only [tokOf_key] at h1
  have hc : c = c' := congrArg (fun x : GSem nD τ sig × Fin 3 => x.1.1.1) h1
  have ht : tokKey t = tokKey t' := congrArg (fun x : GSem nD τ sig × Fin 3 => (x.1.2, x.2)) h1
  rw [hc, tokKey_injective ht]

def cells : Finset (GSem nD τ sig) := Finset.univ.map ⟨kcell, kcell_injective⟩
def tokens : Finset (GSem nD τ sig × ℕ × Fin 3) := Finset.univ.map ⟨tokOf, tokOf_injective⟩

/-- The launch's resources. -/
def u₀ : UU := (initOf (Pipeline.cells cfgs cellOf_inj) (Pipeline.launchToks cfgs cellOf_inj), initOf cells tokens)

/-- The tokens of device `c`'s own semaphores. -/
def toks (c : Dev nD) : sProp 𝕄 :=
  iprop((bigSep Finset.univ fun k => dutyTok ER (barCell c) 0 k) ∗ (bigSep Finset.univ fun j => dutyTok ER (sendCell c j) 0 0)
    ∗ bigSep Finset.univ fun j => dutyTok ER (recvCell c j) 0 0)

/-- What the launch's resources give device `c`. -/
def G (c : Dev nD) : sProp 𝕄 :=
  iprop((bigSep Finset.univ fun i : CellIx => roundState ER (sched m) (kcell (c, i)) 0)
    ∗ (bigSep Finset.univ fun i : CellIx => iprop(atPos ER (kcell (c, i)) 0 ∅ 0 ∗ reached ER (kcell (c, i)) 0)) ∗ toks c)

/-- What a device has once all is shared out. -/
def G' (c : Dev nD) : sProp 𝕄 := iprop(∃ K, ghost m K c)

theorem fund : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun i : CellIx => Φ (kcell (c, i)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [BI.bigSep_univ_sum, BI.bigSep_univ_sum]; rfl
  iintro HX
  imod (Rounds.fund ER (sched m) cells tokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The schedule put in force -/

/-- One device's semaphores go under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i => reached ER (kcell (c, i)) 0) ∗ stand c ∗ toks c ∗ idle c) := by
  unfold G
  rw [own_sems, unscopedSems0_eq, bigSep_sep']
  iintro ⟨⟨HS, HV, Hidle⟩, HB, Hst, ⟨Hat, Hre⟩, Htok⟩
  imod (show iprop((bigSep Finset.univ fun i : CellIx => semVal (kcell (c, i)) 0) ∗ bigSep Finset.univ fun i : CellIx => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [HB HS HV Hst] with Hinv
  · isplitr [Hst]
    · iapply (Entails.of_eq (bigSep_cells fun i : CellIx => (semVal (kcell (c, i)) 0 : sProp 𝕄)).symm)
      isplitl [HB]; · iexact HB
      isplitl [HS]; · iexact HS
      iexact HV
    · iexact Hst
  imodintro
  isplitl [Hinv]; · iexact Hinv
  isplitl [Hre]; · iexact Hre
  isplitl [Hat]
  · iapply (show (bigSep Finset.univ fun i : CellIx => (atPos ER (kcell (c, i)) 0 ∅ 0 : sProp 𝕄)) ⊢ stand c from
      Entails.of_eq (bigSep_cells fun i : CellIx => (atPos ER (kcell (c, i)) 0 ∅ 0 : sProp 𝕄)))
    iexact Hat
  isplitl [Htok]; · iexact Htok
  iexact Hidle

/-- A device and a channel, seen from the other end of the channel. -/
def ends : Dev nD × Fin 3 ≃ Dev nD × Fin 3 :=
  ⟨fun p => (sh p.1 p.2, p.2), fun p => (back p.1 p.2, p.2), fun p => Prod.ext (back_sh p.1 p.2) rfl, fun p => Prod.ext (sh_back p.1 p.2) rfl⟩

/-- What every device has for each channel, read at the other end of the channel. -/
theorem around (Φ : Dev nD → Fin 3 → sProp 𝕄) :
    (bigSep Finset.univ fun c : Dev nD => bigSep Finset.univ fun k => Φ c k) = bigSep Finset.univ fun c : Dev nD => bigSep Finset.univ fun k => Φ (sh c k) k := by
  rw [← bigSep_univ_prod fun p : Dev nD × Fin 3 => Φ p.1 p.2, bigSep_univ_equiv ends, bigSep_univ_prod]
  rfl

/-- The tokens go to the devices that pay. -/
theorem toks_around : (bigSep Finset.univ fun c : Dev nD => (toks c : sProp 𝕄)) = bigSep Finset.univ fun c : Dev nD => payToks c := by
  unfold toks payToks
  simp only [bigSep_sep']
  rw [around fun c k => (dutyTok ER (barCell c) 0 k : sProp 𝕄), around fun c j => (dutyTok ER (recvCell c j) 0 0 : sProp 𝕄)]

/-- What is known to all is given to each. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m) κ (kcell (c, i))))
          ∗ (bigSep Finset.univ fun i => reached ER (kcell (c, i)) 0) ∗ stand c ∗ toks c ∗ idle c) : sProp 𝕄)
      ⊢ bigSep Finset.univ (G' m) := by
  rw [bigSep_sep', bigSep_sep', bigSep_sep', bigSep_sep', ← bigSep_univ_prod (fun ci : Dev nD × CellIx => iprop(∃ κ : ℕ, cellInv ER (sched m) κ (kcell ci))),
    ← bigSep_univ_prod (fun ci : Dev nD × CellIx => (reached ER (kcell ci) 0 : sProp 𝕄)), toks_around]
  iintro ⟨HI, #HR, Hst, Htok, Hid⟩
  ihave HK := (BI.bigSep_exists_pi Finset.univ (fun (ci : Dev nD × CellIx) (κ : ℕ) => (cellInv ER (sched m) κ (kcell ci) : sProp 𝕄))) $$ HI
  icases HK with ⟨%K, #HI⟩
  iapply (give_all (R := records m K) (Φ := fun c => iprop(stand c ∗ payToks c ∗ idle c)) fun c _ => by
    unfold G' ghost
    iintro ⟨#H, H1, H2, H3⟩
    iexists K
    isplitr; · iexact H
    isplitl [H1]; · iexact H1
    isplitl [H2]; · iexact H2
    iexact H3)
  isplitr
  · unfold records; isplitl; · iexact HI
    iexact HR
  · simp only [bigSep_sep']
    isplitl [Hst]; · iexact Hst
    isplitl [Htok]; · iexact Htok
    iexact Hid

/-- All the devices' semaphores, put under the schedule and shared out. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.A2A

end
-- ==== Proof.Credit.lean ====
module

public import proofs.«01_k».proof.Proof.Deal

/-!
# What the devices owe each other

The sum of what all devices owe a semaphore at the start: three units to a barrier, a block's credit
to a receive semaphore.  A device starts with the credit of its own barrier and receive semaphores.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bar_iff {a b : Dev nD} : barCell a = barCell b ↔ a = b :=
  ⟨fun h => congrArg (fun g : GSem nD τ sig => g.1.1) h, fun h => h ▸ rfl⟩
theorem recv_iff {a b : Dev nD} {i j : Fin 3} : recvCell a i = recvCell b j ↔ a = b ∧ i = j :=
  ⟨fun h => by
    have := kcell_injective (show kcell (a, iRecv i) = kcell (b, iRecv j) from h)
    exact ⟨congrArg Prod.fst this, Sum.inr_injective (Sum.inr_injective (congrArg Prod.snd this))⟩, fun h => by rw [h.1, h.2]⟩
theorem recv_ne_bar {a b : Dev nD} {i : Fin 3} : recvCell a i ≠ barCell b := fun h =>
  absurd (congrArg Prod.snd h) (fun h' => by cases h')
theorem sh_iff {d c : Dev nD} {k : Fin 3} : c = sh d k ↔ d = back c k :=
  ⟨fun h => by rw [h, back_sh], fun h => by rw [h, sh_back]⟩

theorem owedB_bar (d c : Dev nD) (k : Fin 3) : owedB d k (barCell c) () = if d = back c k then 1 else 0 := by
  rw [tallyAt_apply]; simp only [bar_iff, sh_iff, and_true]
theorem owedX_bar (d c : Dev nD) (j : Fin 3) : owedX d j (barCell c) () = 0 := by
  rw [tallyAt_apply]; exact if_neg fun h => recv_ne_bar h.1.symm
theorem owedB_recv (d c : Dev nD) (k i : Fin 3) : owedB d k (recvCell c i) () = 0 := by
  rw [tallyAt_apply]; exact if_neg fun h => recv_ne_bar h.1
theorem owedX_recv (d c : Dev nD) (j i : Fin 3) : owedX d j (recvCell c i) () = if d = back c j ∧ i = j then N else 0 := by
  rw [tallyAt_apply]; simp only [recv_iff, sh_iff, and_true]

/-- What device `d` owes device `c`'s barrier; -/
theorem owed_bar (d c : Dev nD) : owed₀ d (barCell c) () = ((if d = back c 2 then 1 else 0) + (if d = back c 1 then 1 else 0)) + (if d = back c 0 then 1 else 0) := by
  unfold owed₀ owedXs
  simp only [Pi.add_apply, Finsupp.add_apply, Pi.zero_apply, Finsupp.zero_apply]
  rw [owedX_bar d c 2, owedX_bar d c 0, owedX_bar d c 1, owedB_bar, owedB_bar, owedB_bar]
  simp only [Nat.zero_add]
/-- its receive semaphore of channel `i`. -/
theorem owed_recv (d c : Dev nD) (i : Fin 3) : owed₀ d (recvCell c i) () = if d = back c i then N else 0 := by
  unfold owed₀ owedXs
  simp only [Pi.add_apply, Finsupp.add_apply, Pi.zero_apply, Finsupp.zero_apply]
  rw [owedX_recv d c 2, owedX_recv d c 0, owedX_recv d c 1, owedB_recv, owedB_recv, owedB_recv]
  fin_cases i <;> simp

theorem launch_bar (c : Dev nD) :
    tallyOn (barCell c) (launchCredit (Pipeline.owing owed₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (back c 2) fun _ => 1, Finset.sum_ite_eq' Finset.univ (back c 1) fun _ => 1, Finset.sum_ite_eq' Finset.univ (back c 0) fun _ => 1]
  simp only [if_pos (Finset.mem_univ _)]

theorem launch_recv (c : Dev nD) (i : Fin 3) :
    tallyOn (recvCell c i) (launchCredit (Pipeline.owing owed₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (back c i) fun _ => N,
    if_pos (Finset.mem_univ _)]

/-- The receive semaphores. -/
def recvEmb : Fin 3 ↪ SemLoc sig := ⟨fun j => .dma (recvS j), by intro i j h; revert i j; decide⟩

/-- A device starts with what it is owed. -/
theorem creds (c : Dev nD) :
    (Pipeline.launchCred owed₀ c : sProp 𝕄) ⊢ iprop(cred (tallyAt (barCell c) () 3) ∗ bigSep Finset.univ fun j => cred (tallyAt (recvCell c j) () N)) := by
  unfold Pipeline.launchCred
  rw [bigSep_univ_at _ (SemLoc.reg barS), launch_bar]
  have h : (bigSep Finset.univ fun j => (cred (tallyAt (recvCell c j) () N) : sProp 𝕄))
      = bigSep (Finset.univ.map recvEmb) fun s => cred (tallyOn ((c : Thread nD τ), s) (launchCredit (Pipeline.owing owed₀) 0 ((c : Thread nD τ), s))) := by
    rw [bigSep_map]
    exact bigSep_congr fun j _ => congrArg cred (launch_recv c j).symm
  rw [h]
  refine sep_mono_right (bigSep_subset fun s hs => ?_)
  obtain ⟨j, -, rfl⟩ := Finset.mem_map.mp hs
  exact Finset.mem_erase.mpr ⟨fun h => (by cases h), Finset.mem_univ _⟩

end Cert.A2A

end
-- ==== Proof.Run.lean ====
module

public import proofs.«01_k».proof.Proof.Body
public import proofs.«01_k».proof.Proof.Credit
public import Idealize.ShloMosaic.Lib.Pipeline.CollectiveSegs

/-!
# The run of the four devices

The kernel's proof on one device, put into the pipeline that stages its operands, and the launch on
all four devices.  Every run ends, with every semaphore at zero, the operands unchanged, and on each
device the result `outAt`.
-/

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel in its pipeline -/

theorem N_pt : cfg0.N = 1 := N_0
theorem pt (t : Fin cfg0.N) : t = t0_0 := fin_N0 t

/-- The debt at a point, whatever has been waited on. -/
theorem ow_of (c : Dev nD) (t : Fin (cfg0.N + 1)) : ((dats m 0 c).owesAt () t : sProp 𝕄) ⊢ ow c ((dats m 0 c).owed t) := by
  unfold Dat.owesAt Pipeline.owesWithin ow
  iintro ⟨%W, -, H⟩
  iexists W; iexact H
theorem of_ow (c : Dev nD) (t : Fin (cfg0.N + 1)) : (ow c ((dats m 0 c).owed t) : sProp 𝕄) ⊢ (dats m 0 c).owesAt () t := by
  unfold Dat.owesAt Pipeline.owesWithin ow
  iintro ⟨%W, H⟩
  iexists W; isplitr; · ipureintro; exact fun _ _ => Or.inl trivial
  iexact H

theorem before_x (c : Dev nD) (d) : (dats m 0 c).before (0 : Fin 3) t0_0 d = xstg m c := by
  unfold Dat.before; rw [if_pos (show (cfg0.win (0 : Fin 3)).fetch t0_0 = true from by decide)]; rfl
theorem before_w (c : Dev nD) (d) : (dats m 0 c).before (1 : Fin 3) t0_0 d = wstg m c := by
  unfold Dat.before; rw [if_pos (show (cfg0.win (1 : Fin 3)).fetch t0_0 = true from by decide)]; rfl

set_option maxRecDepth 4000 in
def obPre (c : Dev nD) : sProp 𝕄 :=
  iprop(Φ₀ m c ∗ (dats m 0 c).owesAt () t0_0.castSucc
    ∗ (∃ d, xPts c ((dats m 0 c).before (0 : Fin 3) t0_0 d)) ∗ (∃ d, wPts c ((dats m 0 c).before (1 : Fin 3) t0_0 d))
    ∗ (∃ d, oPts c ((dats m 0 c).before (2 : Fin 3) t0_0 d)))
def obPost (c : Dev nD) : sProp 𝕄 :=
  iprop(Φ₁ c ∗ (dats m 0 c).owesAt () t0_0.succ ∗ xPts c (xstg m c) ∗ wPts c (wstg m c) ∗ oPts c (outAt m c))

set_option maxRecDepth 4000 in
/-- The kernel meets what its pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_whole]
  show obPre m c ⊢ wp frame (wpE (defs₀ (F := F)) 𝒱₀ (c : Thread nD τ) none) Set.univ
    (cc0_body xM (Memref.isWhole_whole _) wM (Memref.isWhole_whole _) oM (Memref.isWhole_whole _)
            yM (Memref.isWhole_whole _) rM (Memref.isWhole_whole _) cc0_scratch2 cc0_scratch3) (fun _ => obPost m c)
  unfold obPre Φ₀ start
  iintro ⟨⟨⟨⟨%K, Hg⟩, Hrest⟩, Hscr⟩, Ho, ⟨%d0, Hx⟩, ⟨%d1, Hw⟩, ⟨%d2, Hout⟩⟩
  ihave HO := (ow_of m c t0_0.castSucc) $$ Ho
  rw [before_x, before_w]
  iapply (sound_body m K c fun _ => obPost m c)
  unfold bodyPre
  isplitr []
  · isplitl [Hg Hrest]
    · isplitl [Hg]; · iexact Hg
      iexact Hrest
    isplitl [Hscr]; · iexact Hscr
    isplitl [HO]; · iexact HO
    isplitl [Hx]; · iexact Hx
    isplitl [Hw]; · iexact Hw
    iexists _; iexact Hout
  · unfold bodyPost obPost
    iintro ⟨HΦ, HO, Hx, Hw, Hout⟩
    isplitl [HΦ]; · iexact HΦ
    isplitl [HO]; · iapply (of_ow m c t0_0.succ); iexact HO
    isplitl [Hx]; · iexact Hx
    isplitl [Hw]; · iexact Hw
    iexact Hout

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, ⟨%f, Hy⟩, ⟨%g, Hr⟩⟩
  isplitl [Hs]; · iexact Hs
  isplitl [Hy]
  · iapply (slots_split c yM f); rw [View.set_whole]; iexact Hy
  · iapply (slots_split c rM g); rw [View.set_whole]; iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, own_sems, unscopedSems0_eq]
  unfold Φ₁ scr
  iintro ⟨Hy, Hr, HB, HS, HV, Hid⟩
  isplitl [HB]; · iexact HB
  isplitl [HS HV Hid]
  · isplitl [HS]; · iexact HS
    isplitl [HV]; · iexact HV
    iexact Hid
  ihave Hy := (slots_join c yM) $$ Hy
  ihave Hr := (slots_join c rM) $$ Hr
  rw [View.set_whole, View.set_whole]
  isplitl [Hy]; · iexact Hy
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The run -/

/-- The arrays at the end. -/
def finalA (c : Dev nD) (w : Fin cfg0.W) : Buf (Elt F) ((cfg0.win w).arr.view.loc (c : Thread nD τ)) := (dats m 0 c).arrAt w cfg0.N

set_option maxRecDepth 8000 in
/-- From any memory with all semaphores at zero, every run of the four devices ends, with each array at its final
    contents and every semaphore at zero. -/
theorem run_arrays : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they began; -/
theorem finalA_x (c : Dev nD) : finalA m c (0 : Fin 3) = m ((c : Thread nD τ).loc main_arg0) :=
  (dats (F := F) m 0 c).arrAt_in (0 : Fin 3) rfl _
theorem finalA_w (c : Dev nD) : finalA m c (1 : Fin 3) = m ((c : Thread nD τ).loc main_arg1) :=
  (dats (F := F) m 0 c).arrAt_in (1 : Fin 3) rfl _

/-- Each array is staged in one piece. -/
theorem block_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem block_w (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem block_o (f : main_v1.ty.Contents (Elt F)) : (win0_2.blk (0 : Fin 1)).view.read (Elt F) f = f :=
  Memref.read_access_unit_zero (Elt F) main_v1 (funext fun a => by fin_cases a <;> decide) (fun a => by fin_cases a <;> decide) f

theorem xstg_eq (c : Dev nD) : xstg m c = m ((c : Thread nD τ).loc main_arg0) := block_x _
theorem wstg_eq (c : Dev nD) : wstg m c = m ((c : Thread nD τ).loc main_arg1) := block_w _

/-- The result's array ends as the kernel leaves the staged result. -/
theorem finalA_o (c : Dev nD) : finalA m c (2 : Fin 3) = outAt m c := by
  have h : (win0_2.blk (0 : Fin 1)).view.read (Elt F) (finalA m c (2 : Fin 3)) = outAt m c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  exact (block_o _).symm.trans h

/-- From any memory with all semaphores at zero, every run of the four devices ends with the operands unchanged, on
    each device the result `outAt`, and every semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outAt m c) ∧ r.2.sem = fun _ => 0) :=
  (θ_run defs _ _).mono (fun _ h => ⟨fun c => ⟨(h.1 c (0 : Fin 3)).trans (finalA_x m c), (h.1 c (1 : Fin 3)).trans (finalA_w m c),
    (h.1 c (2 : Fin 3)).trans (finalA_o m c)⟩, h.2⟩) (run_arrays m ρ)

end Cert.A2A

end
-- ==== Proof.Value.lean ====
module

public import proofs.«01_k».proof.Proof.Run
public import Idealize.ShloMosaic.Lib.MatmulPlain
public import Idealize.ShloMosaic.Lib.StackMember
public import Idealize.ShloMosaic.Lib.Layout

/-!
# The value of the result

Over the extended reals the change of format on the way between the devices changes nothing, so every
block of the result, the device's own and the received ones alike, is the product of the sending
device's rows of the first operand with the receiving device's columns of the second.  Put together,
a device's result is its columns of the product of the two whole matrices.
-/

@[expose] public section

noncomputable section

namespace Cert.A2A

open Cert.KernelIdeal Cert.KernelIdeal.Gen
open Idealize.ShloMosaic Idealize.ShloMosaic.ValueIdx
open Idealize.ShloMosaic.TcCoe
open scoped BigOperators

/-- The four row blocks, and the four column blocks, of a square matrix of 1024 rows. -/
abbrev rowsOf (d : Dev nD) (X : FVec Ideal ⟨2, ![1024, 1024]⟩ .f32) : FVec Ideal ⟨2, ![256, 1024]⟩ .f32 :=
  Layout.block ⟨2, ![256, 1024]⟩ ⟨2, ![1024, 1024]⟩ 0 4 d X
abbrev colsOf (d : Dev nD) (X : FVec Ideal ⟨2, ![1024, 1024]⟩ .f32) : FVec Ideal ⟨2, ![1024, 256]⟩ .f32 :=
  Layout.block ⟨2, ![1024, 256]⟩ ⟨2, ![1024, 1024]⟩ 1 4 d X

/-- The product of two square matrices of 1024 rows, as the host takes it. -/
abbrev prod (X W : FVec Ideal ⟨2, ![1024, 1024]⟩ .f32) : FVec Ideal ⟨2, ![1024, 1024]⟩ .f32 :=
  Host.dotGeneral (DotDims.plain 1024 1024 1024) none X W

/-- The columns a device reads of the second operand are that column block of it. -/
theorem cols_eq (w : FVec Ideal ⟨2, ![1024, 1024]⟩ .f32) (d : Dev nD) : cols (F := Ideal) w d = colsOf d w := by
  funext i
  refine congrArg w (funext fun a => Fin.ext ?_)
  match a with
  | ⟨0, _⟩ => show 0 + 1 * (i 0).val = (i 0).val; omega
  | ⟨1, _⟩ => show 256 * d.val + 1 * (i 1).val = d.val * 256 + (i 1).val; omega

/-- Narrowing a block for the wire and widening it again leaves the product as it was. -/
theorem wire (x : FVec Ideal S256x1024 .f32) (w : FVec Ideal S1024x256 .f32) :
    k0_pay1 (F := Ideal) (k0_pay2 (F := Ideal) x w) = k0_pay6 x w :=
  shapeCast_shapeCast (k0_pay6 (F := Ideal) x w) _ _

/-- An entry of a block of the product is the sum over the 1024 contracted positions. -/
theorem block_apply (x : FVec Ideal S256x1024 .f32) (w : FVec Ideal S1024x256 .f32) (r c : Fin 256) :
    k0_pay6 (F := Ideal) x w (ix2 r c) = ∑ k : Fin 1024, x (ix2 r k) * w (ix2 k c) := by
  have h := Ideal.matmul_plain_apply (M := 256) (K := 1024) (N := 256) none x w (constant S256x256 .f32 0x00000000#32) r c
  rw [show constant (F := Ideal) S256x256 .f32 0x00000000#32 (ix2 r c) = 0 from Ideal.ofBits_zero_f32, zero_add] at h
  refine Eq.trans ?_ h
  unfold k0_pay6
  simp only [shapeCast_self]
  rfl

variable (m : (ℓ : Loc nD τ sig) → Buf (Elt Ideal) ℓ)

/-- Every block of a device's result is the product of one device's rows and its own columns. -/
theorem blockOut_eq (X W : FVec Ideal ⟨2, ![1024, 1024]⟩ .f32) (hx : ∀ d, xstg m d = rowsOf d X) (hw : ∀ d, wstg m d = W)
    (c d : Dev nD) : blockOut m c d = k0_pay6 (F := Ideal) (rowsOf d X) (colsOf c W) := by
  unfold blockOut sent
  split
  · next h => subst h; rw [hx, hw, cols_eq]
  · rw [hx, hw, cols_eq]; exact wire _ _

/-- A device's result is its columns of the product of the two whole matrices. -/
theorem outAt_eq (X W : FVec Ideal ⟨2, ![1024, 1024]⟩ .f32) (hx : ∀ d, xstg m d = rowsOf d X) (hw : ∀ d, wstg m d = W)
    (c : Dev nD) : outAt m c = colsOf c (prod X W) := by
  funext i
  change S1024x256.Idx at i
  unfold outAt
  rw [blockOut_eq m X W hx hw]
  generalize hd : (⟨(i 0).val / 256, _⟩ : Dev nD) = d
  have hv : (i 0).val / 256 = d.val := congrArg Fin.val hd
  have hi : inBlock i = ix2 (n0 := 256) (n1 := 256) ⟨(i 0).val % 256, Nat.mod_lt _ (by decide)⟩ (i 1) := eq_ix2 (n0 := 256) (n1 := 256) _
  have hb : (i 1).val < 256 := (i 1).isLt
  have hc : c.val < 4 := c.isLt
  have hj : (show Layout.Tiles ⟨2, ![1024, 256]⟩ ⟨2, ![1024, 1024]⟩ 1 4 by decide).idx c i
      = ix2 (n0 := 1024) (n1 := 1024) (i 0) ⟨c.val * 256 + (i 1).val, by omega⟩ := eq_ix2 (n0 := 1024) (n1 := 1024) _
  refine (congrArg (k0_pay6 (F := Ideal) (rowsOf d X) (colsOf c W)) hi).trans ((block_apply _ _ _ _).trans ?_)
  refine Eq.trans ?_ ((congrArg (prod X W) hj).trans (StackMember.dotGeneral_plain_apply none X W _ _)).symm
  refine Finset.sum_congr rfl fun k _ => ?_
  refine congrArg₂ (· * ·) (congrArg X (funext fun a => Fin.ext ?_)) (congrArg W (funext fun a => Fin.ext ?_))
  · match a with
    | ⟨0, _⟩ => show d.val * 256 + (i 0).val % 256 = (i 0).val; omega
    | ⟨1, _⟩ => rfl
  · match a with
    | ⟨0, _⟩ => rfl
    | ⟨1, _⟩ => rfl

end Cert.A2A

end
-- ==== Proof.Claims.lean ====
module

public import proofs.«01_k».proof.Defs
public import proofs.«01_k».proof.Proof.Gen.Kernel
public import proofs.«01_k».proof.Proof.Gen.ReferenceIdeal.Run
public import proofs.«01_k».proof.Proof.Value
public import Idealize.ShloMosaic.Adequacy
public import Idealize.ShloMosaic.Init

/-!
# The claims

The kernel and its ideal reading are one text, so the run proved for any float values gives the frame
of both; its final contents over the extended reals, compared with the host's product of the whole
matrices, give the equation with the reference.
-/

@[expose] public section

noncomputable section

namespace Cert.A2A

open Idealize.ShloMosaic Idealize.ShloMosaic.TcCoe Idealize.SL.Sem

/-- The two programs have the same table of bodies. -/
theorem bodies_eq {F : FTy → Type} [FloatOps F] : Cert.Kernel.defs₀ (F := F) = Cert.KernelIdeal.defs₀ (F := F) := by
  refine congrArg Defs.onTc (funext fun l => funext fun a => ?_)
  match l, a with
  | ⟨0, _⟩, (t, s) => rfl

/-- So they run the same definitions. -/
theorem defs_eq {F : FTy → Type} [FloatOps F] : Cert.Kernel.defs (F := F) = Cert.KernelIdeal.defs (F := F) :=
  congrArg (Pipeline.defs (Cert.KernelIdeal.pcfgs (F := F))) bodies_eq

/-- The kernel over machine floats runs to its end, keeps its operands and leaves every semaphore at zero. -/
theorem frame_kernel : Cert.quiescent_Kernel := by
  intro m ρ _
  rw [defs_eq]
  exact (θ_run Cert.KernelIdeal.defs _ _).mono (fun _ h => ⟨fun c => ⟨(h.1 c).1, (h.1 c).2.1⟩, h.2⟩) (run_main (F := Bits) m ρ)

/-- The kernel over the extended reals does the same. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference over the extended reals runs to its end and keeps its operands; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On each device the kernel's result is that device's columns of the product the reference computes. -/
theorem kernel_eq_reference : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).2.2.trans ?_, (h.1 c).1, (h.1 c).2.1⟩) (run_main (F := Ideal) m ρ)
  exact outAt_eq m _ _ (fun d => (xstg_eq m d).trans (hagree d).1) (fun d => (wstg_eq m d).trans (hagree d).2) c

end Cert.A2A

end
-- ==== Proof.lean ====
/- The certificate's five claims: the kernel's frame over machine floats and over the extended reals, the
   reference's frame, the kernel's ideal reading, and the equation of kernel and reference over the
   extended reals.  Each is proved in Proof/Claims.lean; the ideal reading rewrites no operation. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.A2A.frame_kernel, Cert.A2A.frame_ideal, Cert.A2A.frame_reference, trivial, Cert.A2A.kernel_eq_reference⟩

end Cert.Proof

end
